-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v469) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x128x32x32x32 : Shape := ⟨5, ![4, 128, 32, 32, 32]⟩
abbrev S256x7 : Shape := ⟨2, ![256, 7]⟩
abbrev S256x1 : Shape := ⟨2, ![256, 1]⟩
abbrev S256 : Shape := ⟨1, ![256]⟩
abbrev S_ : Shape := ⟨0, ![]⟩

class Facts : Prop where
  slices_S256x7_S256x1_0_6 : S256x7.Slices ![0, 6] S256x1
  shapeCasts_S256x1_S256 : S256x1.ShapeCasts S256
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S4x128x32x32x32 .f32) (main_arg1 : FVec F S256x7 .f32) : IVec S_ 1 :=
  let main_v0 : FVec F S256x1 .f32 := (extractStridedSlice S256x1 ![0, 6] · slices_S256x7_S256x1_0_6) main_arg1
  let main_v1 : FVec F S256 .f32 := shapeCast S256 main_v0 shapeCasts_S256x1_S256
  let main_v2 : IVec S256 32 := fptosi 32 main_v1
  let main_c : IVec S_ 32 := constantI S_ 32 0#32
  let main_v3 : IVec S256 32 := broadcastInDim S256 ![] bcast_S_S256 main_c
  let main_v4 : IVec S256 1 := cmpi .sge main_v2 main_v3
  let main_c_0 : IVec S_ 32 := constantI S_ 32 4#32
  let main_v5 : IVec S256 32 := broadcastInDim S256 ![] bcast_S_S256 main_c_0
  let main_v6 : IVec S256 1 := cmpi .slt main_v2 main_v5
  let main_v7 : IVec S256 1 := andi main_v4 main_v6
  let main_c_1 : IVec S_ 1 := constantI S_ 1 1#1
  let main_v8 : IVec S_ 1 := (fun x v => Host.reduce IntOp.andi x v reducesTo_S256_S_d0 h_S_) main_v7 main_c_1
  main_v8
-- ==== Kernel.lean ====
abbrev S4x128x32x32x32 : Shape := ⟨5, ![4, 128, 32, 32, 32]⟩
abbrev S256x7 : Shape := ⟨2, ![256, 7]⟩
abbrev S4x32x32x32x128 : Shape := ⟨5, ![4, 32, 32, 32, 128]⟩
abbrev S131072x128 : Shape := ⟨2, ![131072, 128]⟩
abbrev S256x2744 : Shape := ⟨2, ![256, 2744]⟩
abbrev S32x7 : Shape := ⟨2, ![32, 7]⟩
abbrev S32x2744 : Shape := ⟨2, ![32, 2744]⟩
abbrev S32x1 : Shape := ⟨2, ![32, 1]⟩
abbrev S32x196x112 : Shape := ⟨3, ![32, 196, 112]⟩
abbrev S11239424 : Shape := ⟨1, ![11239424]⟩
abbrev S196x112 : Shape := ⟨2, ![196, 112]⟩
abbrev S112x128 : Shape := ⟨2, ![112, 128]⟩
abbrev S7168 : Shape := ⟨1, ![7168]⟩
abbrev S_ : Shape := ⟨0, ![]⟩
abbrev S1x196x112 : Shape := ⟨3, ![1, 196, 112]⟩
abbrev S1x112 : Shape := ⟨2, ![1, 112]⟩
abbrev S112 : Shape := ⟨1, ![112]⟩
abbrev S1x16 : Shape := ⟨2, ![1, 16]⟩
abbrev S16 : Shape := ⟨1, ![16]⟩
abbrev S1 : Shape := ⟨1, ![1]⟩
abbrev S256x343x128 : Shape := ⟨3, ![256, 343, 128]⟩
abbrev S256x128x343 : Shape := ⟨3, ![256, 128, 343]⟩
abbrev S256x128x7x7x7 : Shape := ⟨5, ![256, 128, 7, 7, 7]⟩

abbrev nBuf : Table → Nat
  | .hbm => 12
  | .local .tc .vmem => 6
  | .local .scVector .vmem => 7
  | _ => 0

abbrev bufTy : (tb : Table) → Fin (nBuf tb) → BufTy
  | .hbm, ⟨0, _⟩ => ⟨S4x128x32x32x32, .f32⟩
  | .hbm, ⟨1, _⟩ => ⟨S256x7, .f32⟩
  | .hbm, ⟨2, _⟩ => ⟨S4x32x32x32x128, .f32⟩
  | .hbm, ⟨3, _⟩ => ⟨S131072x128, .f32⟩
  | .hbm, ⟨4, _⟩ => ⟨S256x2744, .i32⟩
  | .hbm, ⟨5, _⟩ => ⟨S256x2744, .f32⟩
  | .hbm, ⟨6, _⟩ => ⟨S32x196x112, .i32⟩
  | .hbm, ⟨7, _⟩ => ⟨S32x196x112, .f32⟩
  | .hbm, ⟨8, _⟩ => ⟨S11239424, .f32⟩
  | .hbm, ⟨9, _⟩ => ⟨S256x343x128, .f32⟩
  | .hbm, ⟨10, _⟩ => ⟨S256x128x343, .f32⟩
  | .hbm, ⟨11, _⟩ => ⟨S256x128x7x7x7, .f32⟩
  | .local .tc .vmem, ⟨0, _⟩ => ⟨S32x7, .f32⟩
  | .local .tc .vmem, ⟨1, _⟩ => ⟨S32x7, .f32⟩
  | .local .tc .vmem, ⟨2, _⟩ => ⟨S32x2744, .i32⟩
  | .local .tc .vmem, ⟨3, _⟩ => ⟨S32x2744, .i32⟩
  | .local .tc .vmem, ⟨4, _⟩ => ⟨S32x2744, .f32⟩
  | .local .tc .vmem, ⟨5, _⟩ => ⟨S32x2744, .f32⟩
  | .local .scVector .vmem, ⟨0, _⟩ => ⟨S196x112, .i32⟩
  | .local .scVector .vmem, ⟨1, _⟩ => ⟨S196x112, .f32⟩
  | .local .scVector .vmem, ⟨2, _⟩ => ⟨S112x128, .f32⟩
  | .local .scVector .vmem, ⟨3, _⟩ => ⟨S112x128, .f32⟩
  | .local .scVector .vmem, ⟨4, _⟩ => ⟨S112x128, .f32⟩
  | .local .scVector .vmem, ⟨5, _⟩ => ⟨S112x128, .f32⟩
  | .local .scVector .vmem, ⟨6, _⟩ => ⟨S7168, .f32⟩
  | _, _ => ⟨S4x128x32x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v1_scv : Ref sig .scVector := ⟨.hbm, 3, rfl⟩
abbrev main_v3_scv : Ref sig .scVector := ⟨.hbm, 6, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2744 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2744 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17_r0 : BitVec 32 := 0#32
  let c0_i32_18_r0 : BitVec 32 := 0#32
  ![v1.toNat, 0, 0]
@[reducible] def k1_t1_loop : Scf.Loop 32 :=
  let c0_i32_14 : BitVec 32 := 0#32
  let c49_i32 : BitVec 32 := 49#32
  let v16 : BitVec 32 := Scalar.addi c0_i32_14 c49_i32
  let c1_i32_15 : BitVec 32 := 1#32
  ⟨c0_i32_14, v16, c1_i32_15⟩
def k1_off2 (k1_t1 : Fin k1_t1_loop.trips) (c0_i32_17 : BitVec 32) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let v18 : BitVec 32 := Scalar.addi v17 c0_i32_17
  let c0_i32_18 : BitVec 32 := 0#32
  ![v18.toNat, 0]
@[reducible] def k1_t2_loop : Scf.Loop 32 :=
  let c0_i32_22 : BitVec 32 := 0#32
  let c7_i32 : BitVec 32 := 7#32
  let v22 : BitVec 32 := Scalar.addi c0_i32_22 c7_i32
  let c1_i32_23 : BitVec 32 := 1#32
  ⟨c0_i32_22, v22, c1_i32_23⟩
def k1_off3 (k1_t1 : Fin k1_t1_loop.trips) (k1_t2 : Fin k1_t2_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c0_i32_17 : BitVec 32 := 0#32
  let v18 : BitVec 32 := Scalar.addi v17 c0_i32_17
  let v59 : Index := Scalar.indexCast v18
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v60 : Index := Scalar.indexCast v58
  ![v59.toNat, v60.toNat]
def k1_off4 (k1_t2 : Fin k1_t2_loop.trips) (c0_i32_65 : BitVec 32) (c0_i32_69 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v83 : BitVec 32 := Scalar.addi v79 c0_i32_69
  let v84 : Index := Scalar.indexCast v83
  let c0 : Index := 0#32
  ![v84.toNat, 0]
def k1_off5 (k1_t2 : Fin k1_t2_loop.trips) (c0_i32_66 : BitVec 32) (c0_i32_82 : BitVec 32) : Fin 1 → Nat :=
  let c0_i32_68 : BitVec 32 := 0#32
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let v80 : BitVec 32 := Scalar.addi v57 c0_i32_66
  let c128_i32_67 : BitVec 32 := 128#32
  let v81 : BitVec 32 := Scalar.muli v80 c128_i32_67
  let v82 : BitVec 32 := Scalar.addi c0_i32_68 v81
  let v138 : BitVec 32 := Scalar.addi v82 c0_i32_82
  let v139 : Index := Scalar.indexCast v138
  ![v139.toNat]
def k1_off6 (k1_t2 : Fin k1_t2_loop.trips) (c0_i32_65 : BitVec 32) (c0_i32_83 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v143 : BitVec 32 := Scalar.addi v79 c0_i32_83
  let v144 : Index := Scalar.indexCast v143
  let c16 : Index := 16#32
  ![v144.toNat, 16]
def k1_off7 (k1_t2 : Fin k1_t2_loop.trips) (c0_i32_65 : BitVec 32) (c0_i32_98 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v203 : BitVec 32 := Scalar.addi v79 c0_i32_98
  let v204 : Index := Scalar.indexCast v203
  let c32 : Index := 32#32
  ![v204.toNat, 32]
def k1_off8 (k1_t2 : Fin k1_t2_loop.trips) (c0_i32_65 : BitVec 32) (c0_i32_113 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v263 : BitVec 32 := Scalar.addi v79 c0_i32_113
  let v264 : Index := Scalar.indexCast v263
  let c48 : Index := 48#32
  ![v264.toNat, 48]
def k1_off9 (k1_t2 : Fin k1_t2_loop.trips) (c0_i32_65 : BitVec 32) (c0_i32_128 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v323 : BitVec 32 := Scalar.addi v79 c0_i32_128
  let v324 : Index := Scalar.indexCast v323
  let c64 : Index := 64#32
  ![v324.toNat, 64]
def k1_off10 (k1_t2 : Fin k1_t2_loop.trips) (c0_i32_65 : BitVec 32) (c0_i32_143 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v383 : BitVec 32 := Scalar.addi v79 c0_i32_143
  let v384 : Index := Scalar.indexCast v383
  let c80 : Index := 80#32
  ![v384.toNat, 80]
def k1_off11 (k1_t2 : Fin k1_t2_loop.trips) (c0_i32_65 : BitVec 32) (c0_i32_158 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v443 : BitVec 32 := Scalar.addi v79 c0_i32_158
  let v444 : Index := Scalar.indexCast v443
  let c96 : Index := 96#32
  ![v444.toNat, 96]
def k1_off12 (k1_t2 : Fin k1_t2_loop.trips) (c0_i32_65 : BitVec 32) (c0_i32_173 : BitVec 32) : Fin 2 → Nat :=
  let c0_i32_22 : BitVec 32 := 0#32
  let c1_i32_23 : BitVec 32 := 1#32
  let arg18 : BitVec 32 := Scf.iv c0_i32_22 c1_i32_23 k1_t2
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v503 : BitVec 32 := Scalar.addi v79 c0_i32_173
  let v504 : Index := Scalar.indexCast v503
  let c112 : Index := 112#32
  ![v504.toNat, 112]
def k1_cond1 (k1_t1 : Fin k1_t1_loop.trips) : BitVec 1 :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c0_i32_17 : BitVec 32 := 0#32
  let v18 : BitVec 32 := Scalar.addi v17 c0_i32_17
  let c4_i32_25 : BitVec 32 := 4#32
  let v23 : BitVec 32 := Scalar.addi v18 c4_i32_25
  let c196_i32 : BitVec 32 := 196#32
  let v24 : BitVec 1 := Scalar.cmpi .slt v23 c196_i32
  let v25 : BitVec 32 := Scalar.extui v24
  let c0_i32_26 : BitVec 32 := 0#32
  let v26 : BitVec 1 := Scalar.cmpi .ne v25 c0_i32_26
  v26

def k1_off13 (k1_t1 : Fin k1_t1_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c0_i32_17 : BitVec 32 := 0#32
  let v18 : BitVec 32 := Scalar.addi v17 c0_i32_17
  let c4_i32_64 : BitVec 32 := 4#32
  let v57 : BitVec 32 := Scalar.addi v18 c4_i32_64
  let c0_i32_65 : BitVec 32 := 0#32
  ![v57.toNat, 0]
@[reducible] def k1_t3_loop : Scf.Loop 32 :=
  let c0_i32_32 : BitVec 32 := 0#32
  let c7_i32_33 : BitVec 32 := 7#32
  let v31 : BitVec 32 := Scalar.addi c0_i32_32 c7_i32_33
  let c1_i32_34 : BitVec 32 := 1#32
  ⟨c0_i32_32, v31, c1_i32_34⟩
def k1_off14 (k1_t1 : Fin k1_t1_loop.trips) (k1_t3 : Fin k1_t3_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c1_i32_27 : BitVec 32 := 1#32
  let v27 : BitVec 32 := Scalar.addi v17 c1_i32_27
  let v59 : Index := Scalar.indexCast v27
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v60 : Index := Scalar.indexCast v58
  ![v59.toNat, v60.toNat]
def k1_off15 (k1_t3 : Fin k1_t3_loop.trips) (c0_i32_65 : BitVec 32) (c0_i32_68 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v83 : BitVec 32 := Scalar.addi v79 c0_i32_68
  let v84 : Index := Scalar.indexCast v83
  let c0 : Index := 0#32
  ![v84.toNat, 0]
def k1_off16 (k1_t3 : Fin k1_t3_loop.trips) (c0_i32_66 : BitVec 32) (c0_i32_81 : BitVec 32) : Fin 1 → Nat :=
  let c1792_i32 : BitVec 32 := 1792#32
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let v80 : BitVec 32 := Scalar.addi v57 c0_i32_66
  let c128_i32_67 : BitVec 32 := 128#32
  let v81 : BitVec 32 := Scalar.muli v80 c128_i32_67
  let v82 : BitVec 32 := Scalar.addi c1792_i32 v81
  let v138 : BitVec 32 := Scalar.addi v82 c0_i32_81
  let v139 : Index := Scalar.indexCast v138
  ![v139.toNat]
def k1_off17 (k1_t3 : Fin k1_t3_loop.trips) (c0_i32_65 : BitVec 32) (c0_i32_82 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v143 : BitVec 32 := Scalar.addi v79 c0_i32_82
  let v144 : Index := Scalar.indexCast v143
  let c16 : Index := 16#32
  ![v144.toNat, 16]
def k1_off18 (k1_t3 : Fin k1_t3_loop.trips) (c0_i32_65 : BitVec 32) (c0_i32_97 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v203 : BitVec 32 := Scalar.addi v79 c0_i32_97
  let v204 : Index := Scalar.indexCast v203
  let c32 : Index := 32#32
  ![v204.toNat, 32]
def k1_off19 (k1_t3 : Fin k1_t3_loop.trips) (c0_i32_65 : BitVec 32) (c0_i32_112 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v263 : BitVec 32 := Scalar.addi v79 c0_i32_112
  let v264 : Index := Scalar.indexCast v263
  let c48 : Index := 48#32
  ![v264.toNat, 48]
def k1_off20 (k1_t3 : Fin k1_t3_loop.trips) (c0_i32_65 : BitVec 32) (c0_i32_127 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v323 : BitVec 32 := Scalar.addi v79 c0_i32_127
  let v324 : Index := Scalar.indexCast v323
  let c64 : Index := 64#32
  ![v324.toNat, 64]
def k1_off21 (k1_t3 : Fin k1_t3_loop.trips) (c0_i32_65 : BitVec 32) (c0_i32_142 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v383 : BitVec 32 := Scalar.addi v79 c0_i32_142
  let v384 : Index := Scalar.indexCast v383
  let c80 : Index := 80#32
  ![v384.toNat, 80]
def k1_off22 (k1_t3 : Fin k1_t3_loop.trips) (c0_i32_65 : BitVec 32) (c0_i32_157 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v443 : BitVec 32 := Scalar.addi v79 c0_i32_157
  let v444 : Index := Scalar.indexCast v443
  let c96 : Index := 96#32
  ![v444.toNat, 96]
def k1_off23 (k1_t3 : Fin k1_t3_loop.trips) (c0_i32_65 : BitVec 32) (c0_i32_172 : BitVec 32) : Fin 2 → Nat :=
  let c0_i32_32 : BitVec 32 := 0#32
  let c1_i32_34 : BitVec 32 := 1#32
  let arg18 : BitVec 32 := Scf.iv c0_i32_32 c1_i32_34 k1_t3
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v503 : BitVec 32 := Scalar.addi v79 c0_i32_172
  let v504 : Index := Scalar.indexCast v503
  let c112 : Index := 112#32
  ![v504.toNat, 112]
def k1_cond2 (k1_t1 : Fin k1_t1_loop.trips) : BitVec 1 :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c1_i32_27 : BitVec 32 := 1#32
  let v27 : BitVec 32 := Scalar.addi v17 c1_i32_27
  let c4_i32_36 : BitVec 32 := 4#32
  let v32 : BitVec 32 := Scalar.addi v27 c4_i32_36
  let c196_i32_37 : BitVec 32 := 196#32
  let v33 : BitVec 1 := Scalar.cmpi .slt v32 c196_i32_37
  let v34 : BitVec 32 := Scalar.extui v33
  let c0_i32_38 : BitVec 32 := 0#32
  let v35 : BitVec 1 := Scalar.cmpi .ne v34 c0_i32_38
  v35

def k1_off24 (k1_t1 : Fin k1_t1_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c1_i32_27 : BitVec 32 := 1#32
  let v27 : BitVec 32 := Scalar.addi v17 c1_i32_27
  let c4_i32_64 : BitVec 32 := 4#32
  let v57 : BitVec 32 := Scalar.addi v27 c4_i32_64
  let c0_i32_65 : BitVec 32 := 0#32
  ![v57.toNat, 0]
@[reducible] def k1_t4_loop : Scf.Loop 32 :=
  let c0_i32_44 : BitVec 32 := 0#32
  let c7_i32_45 : BitVec 32 := 7#32
  let v40 : BitVec 32 := Scalar.addi c0_i32_44 c7_i32_45
  let c1_i32_46 : BitVec 32 := 1#32
  ⟨c0_i32_44, v40, c1_i32_46⟩
def k1_off25 (k1_t1 : Fin k1_t1_loop.trips) (k1_t4 : Fin k1_t4_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c2_i32_39 : BitVec 32 := 2#32
  let v36 : BitVec 32 := Scalar.addi v17 c2_i32_39
  let v59 : Index := Scalar.indexCast v36
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v60 : Index := Scalar.indexCast v58
  ![v59.toNat, v60.toNat]
def k1_off26 (k1_t4 : Fin k1_t4_loop.trips) (c0_i32_65 : BitVec 32) (c0_i32_68 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v83 : BitVec 32 := Scalar.addi v79 c0_i32_68
  let v84 : Index := Scalar.indexCast v83
  let c0 : Index := 0#32
  ![v84.toNat, 0]
def k1_off27 (k1_t4 : Fin k1_t4_loop.trips) (c0_i32_66 : BitVec 32) (c0_i32_81 : BitVec 32) : Fin 1 → Nat :=
  let c3584_i32 : BitVec 32 := 3584#32
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let v80 : BitVec 32 := Scalar.addi v57 c0_i32_66
  let c128_i32_67 : BitVec 32 := 128#32
  let v81 : BitVec 32 := Scalar.muli v80 c128_i32_67
  let v82 : BitVec 32 := Scalar.addi c3584_i32 v81
  let v138 : BitVec 32 := Scalar.addi v82 c0_i32_81
  let v139 : Index := Scalar.indexCast v138
  ![v139.toNat]
def k1_off28 (k1_t4 : Fin k1_t4_loop.trips) (c0_i32_65 : BitVec 32) (c0_i32_82 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v143 : BitVec 32 := Scalar.addi v79 c0_i32_82
  let v144 : Index := Scalar.indexCast v143
  let c16 : Index := 16#32
  ![v144.toNat, 16]
def k1_off29 (k1_t4 : Fin k1_t4_loop.trips) (c0_i32_65 : BitVec 32) (c0_i32_97 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v203 : BitVec 32 := Scalar.addi v79 c0_i32_97
  let v204 : Index := Scalar.indexCast v203
  let c32 : Index := 32#32
  ![v204.toNat, 32]
def k1_off30 (k1_t4 : Fin k1_t4_loop.trips) (c0_i32_65 : BitVec 32) (c0_i32_112 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v263 : BitVec 32 := Scalar.addi v79 c0_i32_112
  let v264 : Index := Scalar.indexCast v263
  let c48 : Index := 48#32
  ![v264.toNat, 48]
def k1_off31 (k1_t4 : Fin k1_t4_loop.trips) (c0_i32_65 : BitVec 32) (c0_i32_127 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v323 : BitVec 32 := Scalar.addi v79 c0_i32_127
  let v324 : Index := Scalar.indexCast v323
  let c64 : Index := 64#32
  ![v324.toNat, 64]
def k1_off32 (k1_t4 : Fin k1_t4_loop.trips) (c0_i32_65 : BitVec 32) (c0_i32_142 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v383 : BitVec 32 := Scalar.addi v79 c0_i32_142
  let v384 : Index := Scalar.indexCast v383
  let c80 : Index := 80#32
  ![v384.toNat, 80]
def k1_off33 (k1_t4 : Fin k1_t4_loop.trips) (c0_i32_65 : BitVec 32) (c0_i32_157 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v443 : BitVec 32 := Scalar.addi v79 c0_i32_157
  let v444 : Index := Scalar.indexCast v443
  let c96 : Index := 96#32
  ![v444.toNat, 96]
def k1_off34 (k1_t4 : Fin k1_t4_loop.trips) (c0_i32_65 : BitVec 32) (c0_i32_172 : BitVec 32) : Fin 2 → Nat :=
  let c0_i32_44 : BitVec 32 := 0#32
  let c1_i32_46 : BitVec 32 := 1#32
  let arg18 : BitVec 32 := Scf.iv c0_i32_44 c1_i32_46 k1_t4
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v503 : BitVec 32 := Scalar.addi v79 c0_i32_172
  let v504 : Index := Scalar.indexCast v503
  let c112 : Index := 112#32
  ![v504.toNat, 112]
def k1_cond3 (k1_t1 : Fin k1_t1_loop.trips) : BitVec 1 :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c2_i32_39 : BitVec 32 := 2#32
  let v36 : BitVec 32 := Scalar.addi v17 c2_i32_39
  let c4_i32_48 : BitVec 32 := 4#32
  let v41 : BitVec 32 := Scalar.addi v36 c4_i32_48
  let c196_i32_49 : BitVec 32 := 196#32
  let v42 : BitVec 1 := Scalar.cmpi .slt v41 c196_i32_49
  let v43 : BitVec 32 := Scalar.extui v42
  let c0_i32_50 : BitVec 32 := 0#32
  let v44 : BitVec 1 := Scalar.cmpi .ne v43 c0_i32_50
  v44

def k1_off35 (k1_t1 : Fin k1_t1_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c2_i32_39 : BitVec 32 := 2#32
  let v36 : BitVec 32 := Scalar.addi v17 c2_i32_39
  let c4_i32_64 : BitVec 32 := 4#32
  let v57 : BitVec 32 := Scalar.addi v36 c4_i32_64
  let c0_i32_65 : BitVec 32 := 0#32
  ![v57.toNat, 0]
@[reducible] def k1_t5_loop : Scf.Loop 32 :=
  let c0_i32_56 : BitVec 32 := 0#32
  let c7_i32_57 : BitVec 32 := 7#32
  let v49 : BitVec 32 := Scalar.addi c0_i32_56 c7_i32_57
  let c1_i32_58 : BitVec 32 := 1#32
  ⟨c0_i32_56, v49, c1_i32_58⟩
def k1_off36 (k1_t1 : Fin k1_t1_loop.trips) (k1_t5 : Fin k1_t5_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c3_i32_51 : BitVec 32 := 3#32
  let v45 : BitVec 32 := Scalar.addi v17 c3_i32_51
  let v59 : Index := Scalar.indexCast v45
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v60 : Index := Scalar.indexCast v58
  ![v59.toNat, v60.toNat]
def k1_off37 (k1_t5 : Fin k1_t5_loop.trips) (c0_i32_65 : BitVec 32) (c0_i32_68 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v83 : BitVec 32 := Scalar.addi v79 c0_i32_68
  let v84 : Index := Scalar.indexCast v83
  let c0 : Index := 0#32
  ![v84.toNat, 0]
def k1_off38 (k1_t5 : Fin k1_t5_loop.trips) (c0_i32_66 : BitVec 32) (c0_i32_81 : BitVec 32) : Fin 1 → Nat :=
  let c5376_i32 : BitVec 32 := 5376#32
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let v80 : BitVec 32 := Scalar.addi v57 c0_i32_66
  let c128_i32_67 : BitVec 32 := 128#32
  let v81 : BitVec 32 := Scalar.muli v80 c128_i32_67
  let v82 : BitVec 32 := Scalar.addi c5376_i32 v81
  let v138 : BitVec 32 := Scalar.addi v82 c0_i32_81
  let v139 : Index := Scalar.indexCast v138
  ![v139.toNat]
def k1_off39 (k1_t5 : Fin k1_t5_loop.trips) (c0_i32_65 : BitVec 32) (c0_i32_82 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v143 : BitVec 32 := Scalar.addi v79 c0_i32_82
  let v144 : Index := Scalar.indexCast v143
  let c16 : Index := 16#32
  ![v144.toNat, 16]
def k1_off40 (k1_t5 : Fin k1_t5_loop.trips) (c0_i32_65 : BitVec 32) (c0_i32_97 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v203 : BitVec 32 := Scalar.addi v79 c0_i32_97
  let v204 : Index := Scalar.indexCast v203
  let c32 : Index := 32#32
  ![v204.toNat, 32]
def k1_off41 (k1_t5 : Fin k1_t5_loop.trips) (c0_i32_65 : BitVec 32) (c0_i32_112 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v263 : BitVec 32 := Scalar.addi v79 c0_i32_112
  let v264 : Index := Scalar.indexCast v263
  let c48 : Index := 48#32
  ![v264.toNat, 48]
def k1_off42 (k1_t5 : Fin k1_t5_loop.trips) (c0_i32_65 : BitVec 32) (c0_i32_127 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v323 : BitVec 32 := Scalar.addi v79 c0_i32_127
  let v324 : Index := Scalar.indexCast v323
  let c64 : Index := 64#32
  ![v324.toNat, 64]
def k1_off43 (k1_t5 : Fin k1_t5_loop.trips) (c0_i32_65 : BitVec 32) (c0_i32_142 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v383 : BitVec 32 := Scalar.addi v79 c0_i32_142
  let v384 : Index := Scalar.indexCast v383
  let c80 : Index := 80#32
  ![v384.toNat, 80]
def k1_off44 (k1_t5 : Fin k1_t5_loop.trips) (c0_i32_65 : BitVec 32) (c0_i32_157 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v443 : BitVec 32 := Scalar.addi v79 c0_i32_157
  let v444 : Index := Scalar.indexCast v443
  let c96 : Index := 96#32
  ![v444.toNat, 96]
def k1_off45 (k1_t5 : Fin k1_t5_loop.trips) (c0_i32_65 : BitVec 32) (c0_i32_172 : BitVec 32) : Fin 2 → Nat :=
  let c0_i32_56 : BitVec 32 := 0#32
  let c1_i32_58 : BitVec 32 := 1#32
  let arg18 : BitVec 32 := Scf.iv c0_i32_56 c1_i32_58 k1_t5
  let c2_i32_64 : BitVec 32 := 2#32
  let v57 : BitVec 32 := Scalar.muli arg18 c2_i32_64
  let c8_i32 : BitVec 32 := 8#32
  let v58 : BitVec 32 := Scalar.muli v57 c8_i32
  let v79 : BitVec 32 := Scalar.addi v58 c0_i32_65
  let v503 : BitVec 32 := Scalar.addi v79 c0_i32_172
  let v504 : Index := Scalar.indexCast v503
  let c112 : Index := 112#32
  ![v504.toNat, 112]
def k1_cond4 (k1_t1 : Fin k1_t1_loop.trips) : BitVec 1 :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c3_i32_51 : BitVec 32 := 3#32
  let v45 : BitVec 32 := Scalar.addi v17 c3_i32_51
  let c4_i32_60 : BitVec 32 := 4#32
  let v50 : BitVec 32 := Scalar.addi v45 c4_i32_60
  let c196_i32_61 : BitVec 32 := 196#32
  let v51 : BitVec 1 := Scalar.cmpi .slt v50 c196_i32_61
  let v52 : BitVec 32 := Scalar.extui v51
  let c0_i32_62 : BitVec 32 := 0#32
  let v53 : BitVec 1 := Scalar.cmpi .ne v52 c0_i32_62
  v53

def k1_off46 (k1_t1 : Fin k1_t1_loop.trips) : Fin 2 → Nat :=
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c3_i32_51 : BitVec 32 := 3#32
  let v45 : BitVec 32 := Scalar.addi v17 c3_i32_51
  let c4_i32_64 : BitVec 32 := 4#32
  let v57 : BitVec 32 := Scalar.addi v45 c4_i32_64
  let c0_i32_65 : BitVec 32 := 0#32
  ![v57.toNat, 0]
def k1_off47 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2744_i32 : BitVec 32 := 2744#32
  let v2 : BitVec 32 := Scalar.muli v1 c2744_i32
  let c128_i32 : BitVec 32 := 128#32
  let v3 : BitVec 32 := Scalar.muli v2 c128_i32
  let c0_i32_14 : BitVec 32 := 0#32
  let c1_i32_15 : BitVec 32 := 1#32
  let arg17 : BitVec 32 := Scf.iv c0_i32_14 c1_i32_15 k1_t1
  let c4_i32 : BitVec 32 := 4#32
  let v17 : BitVec 32 := Scalar.muli arg17 c4_i32
  let c14_i32 : BitVec 32 := 14#32
  let v54 : BitVec 32 := Scalar.muli v17 c14_i32
  let c128_i32_63 : BitVec 32 := 128#32
  let v55 : BitVec 32 := Scalar.muli v54 c128_i32_63
  let v56 : BitVec 32 := Scalar.addi v3 v55
  ![v56.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x32x32x32 : Shape := ⟨5, ![4, 128, 32, 32, 32]⟩
abbrev S256x7 : Shape := ⟨2, ![256, 7]⟩
abbrev S256x6 : Shape := ⟨2, ![256, 6]⟩
abbrev S_ : Shape := ⟨0, ![]⟩
abbrev S256x1 : Shape := ⟨2, ![256, 1]⟩
abbrev S256 : Shape := ⟨1, ![256]⟩
abbrev S7 : Shape := ⟨1, ![7]⟩
abbrev S1x7 : Shape := ⟨2, ![1, 7]⟩
abbrev S256x1x1x1 : Shape := ⟨4, ![256, 1, 1, 1]⟩
abbrev S256x7x1x1 : Shape := ⟨4, ![256, 7, 1, 1]⟩
abbrev S256x1x7x1 : Shape := ⟨4, ![256, 1, 7, 1]⟩
abbrev S256x1x1x7 : Shape := ⟨4, ![256, 1, 1, 7]⟩
abbrev S256x7x7x7 : Shape := ⟨4, ![256, 7, 7, 7]⟩
abbrev S256x7x7x7x1 : Shape := ⟨5, ![256, 7, 7, 7, 1]⟩
abbrev S256x7x7x7x4 : Shape := ⟨5, ![256, 7, 7, 7, 4]⟩
abbrev S256x7x7x7x128 : Shape := ⟨5, ![256, 7, 7, 7, 128]⟩
abbrev S256x7x7x1 : Shape := ⟨4, ![256, 7, 7, 1]⟩
abbrev S256x128x7x7x7 : Shape := ⟨5, ![256, 128, 7, 7, 7]⟩

abbrev nBuf : Space → Nat
  | .hbm => 603
  | .vmem => 0
  | .smem => 0
  | _ => 0

abbrev hbmTy0_0 (i : Nat) : BufTy := match i % 128 with
  | 0 => ⟨S4x128x32x32x32, .f32⟩
  | 1 => ⟨S256x7, .f32⟩
  | 2 => ⟨S256x6, .f32⟩
  | 3 => ⟨S_, .f32⟩
  | 4 => ⟨S256x6, .f32⟩
  | 5 => ⟨S256x6, .f32⟩
  | 6 => ⟨S256x1, .f32⟩
  | 7 => ⟨S256, .f32⟩
  | 8 => ⟨S256, .i32⟩
  | 9 => ⟨S256x1, .f32⟩
  | 10 => ⟨S256, .f32⟩
  | 11 => ⟨S256x1, .f32⟩
  | 12 => ⟨S256, .f32⟩
  | 13 => ⟨S256x1, .f32⟩
  | 14 => ⟨S256, .f32⟩
  | 15 => ⟨S256x1, .f32⟩
  | 16 => ⟨S256, .f32⟩
  | 17 => ⟨S256x1, .f32⟩
  | 18 => ⟨S256, .f32⟩
  | 19 => ⟨S256x1, .f32⟩
  | 20 => ⟨S256, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S256, .f32⟩
  | 28 => ⟨S256x1, .f32⟩
  | 29 => ⟨S_, .f32⟩
  | 30 => ⟨S256x1, .f32⟩
  | 31 => ⟨S256x1, .f32⟩
  | 32 => ⟨S7, .f32⟩
  | 33 => ⟨S1x7, .f32⟩
  | 34 => ⟨S256x1, .f32⟩
  | 35 => ⟨S256x7, .f32⟩
  | 36 => ⟨S256x7, .f32⟩
  | 37 => ⟨S256x7, .f32⟩
  | 38 => ⟨S256x7, .f32⟩
  | 39 => ⟨S256x7, .f32⟩
  | 40 => ⟨S256, .f32⟩
  | 41 => ⟨S_, .f32⟩
  | 42 => ⟨S256, .f32⟩
  | 43 => ⟨S256, .f32⟩
  | 44 => ⟨S_, .f32⟩
  | 45 => ⟨S256, .f32⟩
  | 46 => ⟨S256, .f32⟩
  | 47 => ⟨S256x1, .f32⟩
  | 48 => ⟨S_, .f32⟩
  | 49 => ⟨S256x1, .f32⟩
  | 50 => ⟨S256x1, .f32⟩
  | 51 => ⟨S7, .f32⟩
  | 52 => ⟨S1x7, .f32⟩
  | 53 => ⟨S256x1, .f32⟩
  | 54 => ⟨S256x7, .f32⟩
  | 55 => ⟨S256x7, .f32⟩
  | 56 => ⟨S256x7, .f32⟩
  | 57 => ⟨S256x7, .f32⟩
  | 58 => ⟨S256x7, .f32⟩
  | 59 => ⟨S256, .f32⟩
  | 60 => ⟨S_, .f32⟩
  | 61 => ⟨S256, .f32⟩
  | 62 => ⟨S256, .f32⟩
  | 63 => ⟨S_, .f32⟩
  | 64 => ⟨S256, .f32⟩
  | 65 => ⟨S256, .f32⟩
  | 66 => ⟨S256x1, .f32⟩
  | 67 => ⟨S_, .f32⟩
  | 68 => ⟨S256x1, .f32⟩
  | 69 => ⟨S256x1, .f32⟩
  | 70 => ⟨S7, .f32⟩
  | 71 => ⟨S1x7, .f32⟩
  | 72 => ⟨S256x1, .f32⟩
  | 73 => ⟨S256x7, .f32⟩
  | 74 => ⟨S256x7, .f32⟩
  | 75 => ⟨S256x7, .f32⟩
  | 76 => ⟨S256x7, .f32⟩
  | 77 => ⟨S256x7, .f32⟩
  | 78 => ⟨S256x7, .f32⟩
  | 79 => ⟨S256x7, .f32⟩
  | 80 => ⟨S256x7, .i32⟩
  | 81 => ⟨S_, .i32⟩
  | 82 => ⟨S_, .i32⟩
  | 83 => ⟨S_, .i32⟩
  | 84 => ⟨S256x7, .i32⟩
  | 85 => ⟨S256x7, .i32⟩
  | 86 => ⟨S_, .i32⟩
  | 87 => ⟨S256x7, .i32⟩
  | 88 => ⟨S256x7, .i32⟩
  | 89 => ⟨S256x7, .i32⟩
  | 90 => ⟨S_, .i32⟩
  | 91 => ⟨S256x7, .i32⟩
  | 92 => ⟨S256x7, .i32⟩
  | 93 => ⟨S_, .i32⟩
  | 94 => ⟨S_, .i32⟩
  | 95 => ⟨S_, .i32⟩
  | 96 => ⟨S256x7, .i32⟩
  | 97 => ⟨S256x7, .i32⟩
  | 98 => ⟨S_, .i32⟩
  | 99 => ⟨S256x7, .i32⟩
  | 100 => ⟨S256x7, .i32⟩
  | 101 => ⟨S_, .f32⟩
  | 102 => ⟨S256x7, .f32⟩
  | 103 => ⟨S256x7, .i1⟩
  | 104 => ⟨S_, .f32⟩
  | 105 => ⟨S256x7, .f32⟩
  | 106 => ⟨S256x7, .i1⟩
  | 107 => ⟨S256x7, .i1⟩
  | 108 => ⟨S256x7, .f32⟩
  | 109 => ⟨S256x7, .f32⟩
  | 110 => ⟨S256x7, .i32⟩
  | 111 => ⟨S_, .i32⟩
  | 112 => ⟨S_, .i32⟩
  | 113 => ⟨S_, .i32⟩
  | 114 => ⟨S256x7, .i32⟩
  | 115 => ⟨S256x7, .i32⟩
  | 116 => ⟨S_, .i32⟩
  | 117 => ⟨S256x7, .i32⟩
  | 118 => ⟨S256x7, .i32⟩
  | 119 => ⟨S256x7, .i32⟩
  | 120 => ⟨S_, .i32⟩
  | 121 => ⟨S256x7, .i32⟩
  | 122 => ⟨S256x7, .i32⟩
  | 123 => ⟨S_, .i32⟩
  | 124 => ⟨S_, .i32⟩
  | 125 => ⟨S_, .i32⟩
  | 126 => ⟨S256x7, .i32⟩
  | 127 => ⟨S256x7, .i32⟩
  | _ => ⟨S4x128x32x32x32, .f32⟩

abbrev hbmTy0_1 (i : Nat) : BufTy := match i % 128 with
  | 0 => ⟨S_, .i32⟩
  | 1 => ⟨S256x7, .i32⟩
  | 2 => ⟨S256x7, .i32⟩
  | 3 => ⟨S_, .f32⟩
  | 4 => ⟨S256x7, .f32⟩
  | 5 => ⟨S256x7, .i1⟩
  | 6 => ⟨S_, .f32⟩
  | 7 => ⟨S256x7, .f32⟩
  | 8 => ⟨S256x7, .i1⟩
  | 9 => ⟨S256x7, .i1⟩
  | 10 => ⟨S256x7, .f32⟩
  | 11 => ⟨S256x7, .f32⟩
  | 12 => ⟨S256x7, .i32⟩
  | 13 => ⟨S_, .i32⟩
  | 14 => ⟨S_, .i32⟩
  | 15 => ⟨S_, .i32⟩
  | 16 => ⟨S256x7, .i32⟩
  | 17 => ⟨S256x7, .i32⟩
  | 18 => ⟨S_, .i32⟩
  | 19 => ⟨S256x7, .i32⟩
  | 20 => ⟨S256x7, .i32⟩
  | 21 => ⟨S256x7, .i32⟩
  | 22 => ⟨S_, .i32⟩
  | 23 => ⟨S256x7, .i32⟩
  | 24 => ⟨S256x7, .i32⟩
  | 25 => ⟨S_, .i32⟩
  | 26 => ⟨S_, .i32⟩
  | 27 => ⟨S_, .i32⟩
  | 28 => ⟨S256x7, .i32⟩
  | 29 => ⟨S256x7, .i32⟩
  | 30 => ⟨S_, .i32⟩
  | 31 => ⟨S256x7, .i32⟩
  | 32 => ⟨S256x7, .i32⟩
  | 33 => ⟨S_, .f32⟩
  | 34 => ⟨S256x7, .f32⟩
  | 35 => ⟨S256x7, .i1⟩
  | 36 => ⟨S_, .f32⟩
  | 37 => ⟨S256x7, .f32⟩
  | 38 => ⟨S256x7, .i1⟩
  | 39 => ⟨S256x7, .i1⟩
  | 40 => ⟨S256x1x1x1, .i32⟩
  | 41 => ⟨S256x7x1x1, .f32⟩
  | 42 => ⟨S_, .f32⟩
  | 43 => ⟨S256x7x1x1, .f32⟩
  | 44 => ⟨S256x7x1x1, .f32⟩
  | 45 => ⟨S256x1x7x1, .f32⟩
  | 46 => ⟨S_, .f32⟩
  | 47 => ⟨S256x1x7x1, .f32⟩
  | 48 => ⟨S256x1x7x1, .f32⟩
  | 49 => ⟨S256x1x1x7, .f32⟩
  | 50 => ⟨S_, .f32⟩
  | 51 => ⟨S256x1x1x7, .f32⟩
  | 52 => ⟨S256x1x1x7, .f32⟩
  | 53 => ⟨S256x7x1x1, .i32⟩
  | 54 => ⟨S256x1x7x1, .i32⟩
  | 55 => ⟨S256x1x1x7, .i32⟩
  | 56 => ⟨S_, .i32⟩
  | 57 => ⟨S256x1x1x1, .i32⟩
  | 58 => ⟨S256x1x1x1, .i1⟩
  | 59 => ⟨S_, .i32⟩
  | 60 => ⟨S256x1x1x1, .i32⟩
  | 61 => ⟨S256x1x1x1, .i32⟩
  | 62 => ⟨S256x1x1x1, .i32⟩
  | 63 => ⟨S_, .i32⟩
  | 64 => ⟨S256x7x1x1, .i32⟩
  | 65 => ⟨S256x7x1x1, .i1⟩
  | 66 => ⟨S_, .i32⟩
  | 67 => ⟨S256x7x1x1, .i32⟩
  | 68 => ⟨S256x7x1x1, .i32⟩
  | 69 => ⟨S256x7x1x1, .i32⟩
  | 70 => ⟨S_, .i32⟩
  | 71 => ⟨S256x1x7x1, .i32⟩
  | 72 => ⟨S256x1x7x1, .i1⟩
  | 73 => ⟨S_, .i32⟩
  | 74 => ⟨S256x1x7x1, .i32⟩
  | 75 => ⟨S256x1x7x1, .i32⟩
  | 76 => ⟨S256x1x7x1, .i32⟩
  | 77 => ⟨S_, .i32⟩
  | 78 => ⟨S256x1x1x7, .i32⟩
  | 79 => ⟨S256x1x1x7, .i1⟩
  | 80 => ⟨S_, .i32⟩
  | 81 => ⟨S256x1x1x7, .i32⟩
  | 82 => ⟨S256x1x1x7, .i32⟩
  | 83 => ⟨S256x1x1x7, .i32⟩
  | 84 => ⟨S256x7x7x7, .i32⟩
  | 85 => ⟨S256x7x7x7, .i32⟩
  | 86 => ⟨S256x7x7x7, .i32⟩
  | 87 => ⟨S256x7x7x7, .i32⟩
  | 88 => ⟨S256x7x7x7x1, .i32⟩
  | 89 => ⟨S256x7x7x7x1, .i32⟩
  | 90 => ⟨S256x7x7x7x1, .i32⟩
  | 91 => ⟨S256x7x7x7x1, .i32⟩
  | 92 => ⟨S256x7x7x7x4, .i32⟩
  | 93 => ⟨S256x7x7x7x128, .f32⟩
  | 94 => ⟨S256x7x7x1, .f32⟩
  | 95 => ⟨S256x7x7x1, .f32⟩
  | 96 => ⟨S256x7x7x1, .f32⟩
  | 97 => ⟨S256x7x7x7, .f32⟩
  | 98 => ⟨S256x7x7x7, .f32⟩
  | 99 => ⟨S256x7x7x7, .f32⟩
  | 100 => ⟨S256x7x7x7x1, .f32⟩
  | 101 => ⟨S256x7x7x7x128, .f32⟩
  | 102 => ⟨S256x7x7x7x128, .f32⟩
  | 103 => ⟨S256x7x1x1, .i32⟩
  | 104 => ⟨S256x1x7x1, .i32⟩
  | 105 => ⟨S256x1x1x7, .i32⟩
  | 106 => ⟨S_, .i32⟩
  | 107 => ⟨S256x1x1x1, .i32⟩
  | 108 => ⟨S256x1x1x1, .i1⟩
  | 109 => ⟨S_, .i32⟩
  | 110 => ⟨S256x1x1x1, .i32⟩
  | 111 => ⟨S256x1x1x1, .i32⟩
  | 112 => ⟨S256x1x1x1, .i32⟩
  | 113 => ⟨S_, .i32⟩
  | 114 => ⟨S256x7x1x1, .i32⟩
  | 115 => ⟨S256x7x1x1, .i1⟩
  | 116 => ⟨S_, .i32⟩
  | 117 => ⟨S256x7x1x1, .i32⟩
  | 118 => ⟨S256x7x1x1, .i32⟩
  | 119 => ⟨S256x7x1x1, .i32⟩
  | 120 => ⟨S_, .i32⟩
  | 121 => ⟨S256x1x7x1, .i32⟩
  | 122 => ⟨S256x1x7x1, .i1⟩
  | 123 => ⟨S_, .i32⟩
  | 124 => ⟨S256x1x7x1, .i32⟩
  | 125 => ⟨S256x1x7x1, .i32⟩
  | 126 => ⟨S256x1x7x1, .i32⟩
  | 127 => ⟨S_, .i32⟩
  | _ => ⟨S4x128x32x32x32, .f32⟩

abbrev hbmTy0_2 (i : Nat) : BufTy := match i % 128 with
  | 0 => ⟨S256x1x1x7, .i32⟩
  | 1 => ⟨S256x1x1x7, .i1⟩
  | 2 => ⟨S_, .i32⟩
  | 3 => ⟨S256x1x1x7, .i32⟩
  | 4 => ⟨S256x1x1x7, .i32⟩
  | 5 => ⟨S256x1x1x7, .i32⟩
  | 6 => ⟨S256x7x7x7, .i32⟩
  | 7 => ⟨S256x7x7x7, .i32⟩
  | 8 => ⟨S256x7x7x7, .i32⟩
  | 9 => ⟨S256x7x7x7, .i32⟩
  | 10 => ⟨S256x7x7x7x1, .i32⟩
  | 11 => ⟨S256x7x7x7x1, .i32⟩
  | 12 => ⟨S256x7x7x7x1, .i32⟩
  | 13 => ⟨S256x7x7x7x1, .i32⟩
  | 14 => ⟨S256x7x7x7x4, .i32⟩
  | 15 => ⟨S256x7x7x7x128, .f32⟩
  | 16 => ⟨S256x7x7x1, .f32⟩
  | 17 => ⟨S256x7x7x1, .f32⟩
  | 18 => ⟨S256x7x7x1, .f32⟩
  | 19 => ⟨S256x7x7x7, .f32⟩
  | 20 => ⟨S256x7x7x7, .f32⟩
  | 21 => ⟨S256x7x7x7, .f32⟩
  | 22 => ⟨S256x7x7x7x1, .f32⟩
  | 23 => ⟨S256x7x7x7x128, .f32⟩
  | 24 => ⟨S256x7x7x7x128, .f32⟩
  | 25 => ⟨S256x7x7x7x128, .f32⟩
  | 26 => ⟨S256x7x1x1, .i32⟩
  | 27 => ⟨S256x1x7x1, .i32⟩
  | 28 => ⟨S256x1x1x7, .i32⟩
  | 29 => ⟨S_, .i32⟩
  | 30 => ⟨S256x1x1x1, .i32⟩
  | 31 => ⟨S256x1x1x1, .i1⟩
  | 32 => ⟨S_, .i32⟩
  | 33 => ⟨S256x1x1x1, .i32⟩
  | 34 => ⟨S256x1x1x1, .i32⟩
  | 35 => ⟨S256x1x1x1, .i32⟩
  | 36 => ⟨S_, .i32⟩
  | 37 => ⟨S256x7x1x1, .i32⟩
  | 38 => ⟨S256x7x1x1, .i1⟩
  | 39 => ⟨S_, .i32⟩
  | 40 => ⟨S256x7x1x1, .i32⟩
  | 41 => ⟨S256x7x1x1, .i32⟩
  | 42 => ⟨S256x7x1x1, .i32⟩
  | 43 => ⟨S_, .i32⟩
  | 44 => ⟨S256x1x7x1, .i32⟩
  | 45 => ⟨S256x1x7x1, .i1⟩
  | 46 => ⟨S_, .i32⟩
  | 47 => ⟨S256x1x7x1, .i32⟩
  | 48 => ⟨S256x1x7x1, .i32⟩
  | 49 => ⟨S256x1x7x1, .i32⟩
  | 50 => ⟨S_, .i32⟩
  | 51 => ⟨S256x1x1x7, .i32⟩
  | 52 => ⟨S256x1x1x7, .i1⟩
  | 53 => ⟨S_, .i32⟩
  | 54 => ⟨S256x1x1x7, .i32⟩
  | 55 => ⟨S256x1x1x7, .i32⟩
  | 56 => ⟨S256x1x1x7, .i32⟩
  | 57 => ⟨S256x7x7x7, .i32⟩
  | 58 => ⟨S256x7x7x7, .i32⟩
  | 59 => ⟨S256x7x7x7, .i32⟩
  | 60 => ⟨S256x7x7x7, .i32⟩
  | 61 => ⟨S256x7x7x7x1, .i32⟩
  | 62 => ⟨S256x7x7x7x1, .i32⟩
  | 63 => ⟨S256x7x7x7x1, .i32⟩
  | 64 => ⟨S256x7x7x7x1, .i32⟩
  | 65 => ⟨S256x7x7x7x4, .i32⟩
  | 66 => ⟨S256x7x7x7x128, .f32⟩
  | 67 => ⟨S256x7x7x1, .f32⟩
  | 68 => ⟨S256x7x7x1, .f32⟩
  | 69 => ⟨S256x7x7x1, .f32⟩
  | 70 => ⟨S256x7x7x7, .f32⟩
  | 71 => ⟨S256x7x7x7, .f32⟩
  | 72 => ⟨S256x7x7x7, .f32⟩
  | 73 => ⟨S256x7x7x7x1, .f32⟩
  | 74 => ⟨S256x7x7x7x128, .f32⟩
  | 75 => ⟨S256x7x7x7x128, .f32⟩
  | 76 => ⟨S256x7x7x7x128, .f32⟩
  | 77 => ⟨S256x7x1x1, .i32⟩
  | 78 => ⟨S256x1x7x1, .i32⟩
  | 79 => ⟨S256x1x1x7, .i32⟩
  | 80 => ⟨S_, .i32⟩
  | 81 => ⟨S256x1x1x1, .i32⟩
  | 82 => ⟨S256x1x1x1, .i1⟩
  | 83 => ⟨S_, .i32⟩
  | 84 => ⟨S256x1x1x1, .i32⟩
  | 85 => ⟨S256x1x1x1, .i32⟩
  | 86 => ⟨S256x1x1x1, .i32⟩
  | 87 => ⟨S_, .i32⟩
  | 88 => ⟨S256x7x1x1, .i32⟩
  | 89 => ⟨S256x7x1x1, .i1⟩
  | 90 => ⟨S_, .i32⟩
  | 91 => ⟨S256x7x1x1, .i32⟩
  | 92 => ⟨S256x7x1x1, .i32⟩
  | 93 => ⟨S256x7x1x1, .i32⟩
  | 94 => ⟨S_, .i32⟩
  | 95 => ⟨S256x1x7x1, .i32⟩
  | 96 => ⟨S256x1x7x1, .i1⟩
  | 97 => ⟨S_, .i32⟩
  | 98 => ⟨S256x1x7x1, .i32⟩
  | 99 => ⟨S256x1x7x1, .i32⟩
  | 100 => ⟨S256x1x7x1, .i32⟩
  | 101 => ⟨S_, .i32⟩
  | 102 => ⟨S256x1x1x7, .i32⟩
  | 103 => ⟨S256x1x1x7, .i1⟩
  | 104 => ⟨S_, .i32⟩
  | 105 => ⟨S256x1x1x7, .i32⟩
  | 106 => ⟨S256x1x1x7, .i32⟩
  | 107 => ⟨S256x1x1x7, .i32⟩
  | 108 => ⟨S256x7x7x7, .i32⟩
  | 109 => ⟨S256x7x7x7, .i32⟩
  | 110 => ⟨S256x7x7x7, .i32⟩
  | 111 => ⟨S256x7x7x7, .i32⟩
  | 112 => ⟨S256x7x7x7x1, .i32⟩
  | 113 => ⟨S256x7x7x7x1, .i32⟩
  | 114 => ⟨S256x7x7x7x1, .i32⟩
  | 115 => ⟨S256x7x7x7x1, .i32⟩
  | 116 => ⟨S256x7x7x7x4, .i32⟩
  | 117 => ⟨S256x7x7x7x128, .f32⟩
  | 118 => ⟨S256x7x7x1, .f32⟩
  | 119 => ⟨S256x7x7x1, .f32⟩
  | 120 => ⟨S256x7x7x1, .f32⟩
  | 121 => ⟨S256x7x7x7, .f32⟩
  | 122 => ⟨S256x7x7x7, .f32⟩
  | 123 => ⟨S256x7x7x7, .f32⟩
  | 124 => ⟨S256x7x7x7x1, .f32⟩
  | 125 => ⟨S256x7x7x7x128, .f32⟩
  | 126 => ⟨S256x7x7x7x128, .f32⟩
  | 127 => ⟨S256x7x7x7x128, .f32⟩
  | _ => ⟨S4x128x32x32x32, .f32⟩

abbrev hbmTy0_3 (i : Nat) : BufTy := match i % 128 with
  | 0 => ⟨S256x7x1x1, .i32⟩
  | 1 => ⟨S256x1x7x1, .i32⟩
  | 2 => ⟨S256x1x1x7, .i32⟩
  | 3 => ⟨S_, .i32⟩
  | 4 => ⟨S256x1x1x1, .i32⟩
  | 5 => ⟨S256x1x1x1, .i1⟩
  | 6 => ⟨S_, .i32⟩
  | 7 => ⟨S256x1x1x1, .i32⟩
  | 8 => ⟨S256x1x1x1, .i32⟩
  | 9 => ⟨S256x1x1x1, .i32⟩
  | 10 => ⟨S_, .i32⟩
  | 11 => ⟨S256x7x1x1, .i32⟩
  | 12 => ⟨S256x7x1x1, .i1⟩
  | 13 => ⟨S_, .i32⟩
  | 14 => ⟨S256x7x1x1, .i32⟩
  | 15 => ⟨S256x7x1x1, .i32⟩
  | 16 => ⟨S256x7x1x1, .i32⟩
  | 17 => ⟨S_, .i32⟩
  | 18 => ⟨S256x1x7x1, .i32⟩
  | 19 => ⟨S256x1x7x1, .i1⟩
  | 20 => ⟨S_, .i32⟩
  | 21 => ⟨S256x1x7x1, .i32⟩
  | 22 => ⟨S256x1x7x1, .i32⟩
  | 23 => ⟨S256x1x7x1, .i32⟩
  | 24 => ⟨S_, .i32⟩
  | 25 => ⟨S256x1x1x7, .i32⟩
  | 26 => ⟨S256x1x1x7, .i1⟩
  | 27 => ⟨S_, .i32⟩
  | 28 => ⟨S256x1x1x7, .i32⟩
  | 29 => ⟨S256x1x1x7, .i32⟩
  | 30 => ⟨S256x1x1x7, .i32⟩
  | 31 => ⟨S256x7x7x7, .i32⟩
  | 32 => ⟨S256x7x7x7, .i32⟩
  | 33 => ⟨S256x7x7x7, .i32⟩
  | 34 => ⟨S256x7x7x7, .i32⟩
  | 35 => ⟨S256x7x7x7x1, .i32⟩
  | 36 => ⟨S256x7x7x7x1, .i32⟩
  | 37 => ⟨S256x7x7x7x1, .i32⟩
  | 38 => ⟨S256x7x7x7x1, .i32⟩
  | 39 => ⟨S256x7x7x7x4, .i32⟩
  | 40 => ⟨S256x7x7x7x128, .f32⟩
  | 41 => ⟨S256x7x7x1, .f32⟩
  | 42 => ⟨S256x7x7x1, .f32⟩
  | 43 => ⟨S256x7x7x1, .f32⟩
  | 44 => ⟨S256x7x7x7, .f32⟩
  | 45 => ⟨S256x7x7x7, .f32⟩
  | 46 => ⟨S256x7x7x7, .f32⟩
  | 47 => ⟨S256x7x7x7x1, .f32⟩
  | 48 => ⟨S256x7x7x7x128, .f32⟩
  | 49 => ⟨S256x7x7x7x128, .f32⟩
  | 50 => ⟨S256x7x7x7x128, .f32⟩
  | 51 => ⟨S256x7x1x1, .i32⟩
  | 52 => ⟨S256x1x7x1, .i32⟩
  | 53 => ⟨S256x1x1x7, .i32⟩
  | 54 => ⟨S_, .i32⟩
  | 55 => ⟨S256x1x1x1, .i32⟩
  | 56 => ⟨S256x1x1x1, .i1⟩
  | 57 => ⟨S_, .i32⟩
  | 58 => ⟨S256x1x1x1, .i32⟩
  | 59 => ⟨S256x1x1x1, .i32⟩
  | 60 => ⟨S256x1x1x1, .i32⟩
  | 61 => ⟨S_, .i32⟩
  | 62 => ⟨S256x7x1x1, .i32⟩
  | 63 => ⟨S256x7x1x1, .i1⟩
  | 64 => ⟨S_, .i32⟩
  | 65 => ⟨S256x7x1x1, .i32⟩
  | 66 => ⟨S256x7x1x1, .i32⟩
  | 67 => ⟨S256x7x1x1, .i32⟩
  | 68 => ⟨S_, .i32⟩
  | 69 => ⟨S256x1x7x1, .i32⟩
  | 70 => ⟨S256x1x7x1, .i1⟩
  | 71 => ⟨S_, .i32⟩
  | 72 => ⟨S256x1x7x1, .i32⟩
  | 73 => ⟨S256x1x7x1, .i32⟩
  | 74 => ⟨S256x1x7x1, .i32⟩
  | 75 => ⟨S_, .i32⟩
  | 76 => ⟨S256x1x1x7, .i32⟩
  | 77 => ⟨S256x1x1x7, .i1⟩
  | 78 => ⟨S_, .i32⟩
  | 79 => ⟨S256x1x1x7, .i32⟩
  | 80 => ⟨S256x1x1x7, .i32⟩
  | 81 => ⟨S256x1x1x7, .i32⟩
  | 82 => ⟨S256x7x7x7, .i32⟩
  | 83 => ⟨S256x7x7x7, .i32⟩
  | 84 => ⟨S256x7x7x7, .i32⟩
  | 85 => ⟨S256x7x7x7, .i32⟩
  | 86 => ⟨S256x7x7x7x1, .i32⟩
  | 87 => ⟨S256x7x7x7x1, .i32⟩
  | 88 => ⟨S256x7x7x7x1, .i32⟩
  | 89 => ⟨S256x7x7x7x1, .i32⟩
  | 90 => ⟨S256x7x7x7x4, .i32⟩
  | 91 => ⟨S256x7x7x7x128, .f32⟩
  | 92 => ⟨S256x7x7x1, .f32⟩
  | 93 => ⟨S256x7x7x1, .f32⟩
  | 94 => ⟨S256x7x7x1, .f32⟩
  | 95 => ⟨S256x7x7x7, .f32⟩
  | 96 => ⟨S256x7x7x7, .f32⟩
  | 97 => ⟨S256x7x7x7, .f32⟩
  | 98 => ⟨S256x7x7x7x1, .f32⟩
  | 99 => ⟨S256x7x7x7x128, .f32⟩
  | 100 => ⟨S256x7x7x7x128, .f32⟩
  | 101 => ⟨S256x7x7x7x128, .f32⟩
  | 102 => ⟨S256x7x1x1, .i32⟩
  | 103 => ⟨S256x1x7x1, .i32⟩
  | 104 => ⟨S256x1x1x7, .i32⟩
  | 105 => ⟨S_, .i32⟩
  | 106 => ⟨S256x1x1x1, .i32⟩
  | 107 => ⟨S256x1x1x1, .i1⟩
  | 108 => ⟨S_, .i32⟩
  | 109 => ⟨S256x1x1x1, .i32⟩
  | 110 => ⟨S256x1x1x1, .i32⟩
  | 111 => ⟨S256x1x1x1, .i32⟩
  | 112 => ⟨S_, .i32⟩
  | 113 => ⟨S256x7x1x1, .i32⟩
  | 114 => ⟨S256x7x1x1, .i1⟩
  | 115 => ⟨S_, .i32⟩
  | 116 => ⟨S256x7x1x1, .i32⟩
  | 117 => ⟨S256x7x1x1, .i32⟩
  | 118 => ⟨S256x7x1x1, .i32⟩
  | 119 => ⟨S_, .i32⟩
  | 120 => ⟨S256x1x7x1, .i32⟩
  | 121 => ⟨S256x1x7x1, .i1⟩
  | 122 => ⟨S_, .i32⟩
  | 123 => ⟨S256x1x7x1, .i32⟩
  | 124 => ⟨S256x1x7x1, .i32⟩
  | 125 => ⟨S256x1x7x1, .i32⟩
  | 126 => ⟨S_, .i32⟩
  | 127 => ⟨S256x1x1x7, .i32⟩
  | _ => ⟨S4x128x32x32x32, .f32⟩

abbrev hbmTy0_4 (i : Nat) : BufTy := match i % 128 with
  | 0 => ⟨S256x1x1x7, .i1⟩
  | 1 => ⟨S_, .i32⟩
  | 2 => ⟨S256x1x1x7, .i32⟩
  | 3 => ⟨S256x1x1x7, .i32⟩
  | 4 => ⟨S256x1x1x7, .i32⟩
  | 5 => ⟨S256x7x7x7, .i32⟩
  | 6 => ⟨S256x7x7x7, .i32⟩
  | 7 => ⟨S256x7x7x7, .i32⟩
  | 8 => ⟨S256x7x7x7, .i32⟩
  | 9 => ⟨S256x7x7x7x1, .i32⟩
  | 10 => ⟨S256x7x7x7x1, .i32⟩
  | 11 => ⟨S256x7x7x7x1, .i32⟩
  | 12 => ⟨S256x7x7x7x1, .i32⟩
  | 13 => ⟨S256x7x7x7x4, .i32⟩
  | 14 => ⟨S256x7x7x7x128, .f32⟩
  | 15 => ⟨S256x7x7x1, .f32⟩
  | 16 => ⟨S256x7x7x1, .f32⟩
  | 17 => ⟨S256x7x7x1, .f32⟩
  | 18 => ⟨S256x7x7x7, .f32⟩
  | 19 => ⟨S256x7x7x7, .f32⟩
  | 20 => ⟨S256x7x7x7, .f32⟩
  | 21 => ⟨S256x7x7x7x1, .f32⟩
  | 22 => ⟨S256x7x7x7x128, .f32⟩
  | 23 => ⟨S256x7x7x7x128, .f32⟩
  | 24 => ⟨S256x7x7x7x128, .f32⟩
  | 25 => ⟨S256x7x1x1, .i32⟩
  | 26 => ⟨S256x1x7x1, .i32⟩
  | 27 => ⟨S256x1x1x7, .i32⟩
  | 28 => ⟨S_, .i32⟩
  | 29 => ⟨S256x1x1x1, .i32⟩
  | 30 => ⟨S256x1x1x1, .i1⟩
  | 31 => ⟨S_, .i32⟩
  | 32 => ⟨S256x1x1x1, .i32⟩
  | 33 => ⟨S256x1x1x1, .i32⟩
  | 34 => ⟨S256x1x1x1, .i32⟩
  | 35 => ⟨S_, .i32⟩
  | 36 => ⟨S256x7x1x1, .i32⟩
  | 37 => ⟨S256x7x1x1, .i1⟩
  | 38 => ⟨S_, .i32⟩
  | 39 => ⟨S256x7x1x1, .i32⟩
  | 40 => ⟨S256x7x1x1, .i32⟩
  | 41 => ⟨S256x7x1x1, .i32⟩
  | 42 => ⟨S_, .i32⟩
  | 43 => ⟨S256x1x7x1, .i32⟩
  | 44 => ⟨S256x1x7x1, .i1⟩
  | 45 => ⟨S_, .i32⟩
  | 46 => ⟨S256x1x7x1, .i32⟩
  | 47 => ⟨S256x1x7x1, .i32⟩
  | 48 => ⟨S256x1x7x1, .i32⟩
  | 49 => ⟨S_, .i32⟩
  | 50 => ⟨S256x1x1x7, .i32⟩
  | 51 => ⟨S256x1x1x7, .i1⟩
  | 52 => ⟨S_, .i32⟩
  | 53 => ⟨S256x1x1x7, .i32⟩
  | 54 => ⟨S256x1x1x7, .i32⟩
  | 55 => ⟨S256x1x1x7, .i32⟩
  | 56 => ⟨S256x7x7x7, .i32⟩
  | 57 => ⟨S256x7x7x7, .i32⟩
  | 58 => ⟨S256x7x7x7, .i32⟩
  | 59 => ⟨S256x7x7x7, .i32⟩
  | 60 => ⟨S256x7x7x7x1, .i32⟩
  | 61 => ⟨S256x7x7x7x1, .i32⟩
  | 62 => ⟨S256x7x7x7x1, .i32⟩
  | 63 => ⟨S256x7x7x7x1, .i32⟩
  | 64 => ⟨S256x7x7x7x4, .i32⟩
  | 65 => ⟨S256x7x7x7x128, .f32⟩
  | 66 => ⟨S256x7x7x1, .f32⟩
  | 67 => ⟨S256x7x7x1, .f32⟩
  | 68 => ⟨S256x7x7x1, .f32⟩
  | 69 => ⟨S256x7x7x7, .f32⟩
  | 70 => ⟨S256x7x7x7, .f32⟩
  | 71 => ⟨S256x7x7x7, .f32⟩
  | 72 => ⟨S256x7x7x7x1, .f32⟩
  | 73 => ⟨S256x7x7x7x128, .f32⟩
  | 74 => ⟨S256x7x7x7x128, .f32⟩
  | 75 => ⟨S256x7x7x7x128, .f32⟩
  | 76 => ⟨S256x7x1x1, .i1⟩
  | 77 => ⟨S256x1x7x1, .i1⟩
  | 78 => ⟨S256x7x7x1, .i1⟩
  | 79 => ⟨S256x7x7x1, .i1⟩
  | 80 => ⟨S256x7x7x1, .i1⟩
  | 81 => ⟨S256x1x1x7, .i1⟩
  | 82 => ⟨S256x7x7x7, .i1⟩
  | 83 => ⟨S256x7x7x7, .i1⟩
  | 84 => ⟨S256x7x7x7, .i1⟩
  | 85 => ⟨S256x7x7x7x1, .i1⟩
  | 86 => ⟨S_, .f32⟩
  | 87 => ⟨S256x7x7x7x128, .i1⟩
  | 88 => ⟨S256x7x7x7x128, .f32⟩
  | 89 => ⟨S256x7x7x7x128, .f32⟩
  | 90 => ⟨S256x128x7x7x7, .f32⟩
  | _ => ⟨S4x128x32x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x128x32x32x32, .f32⟩

abbrev bufTy : (tb : Table) → Fin (tcTables nBuf tb) → BufTy
  | .hbm, ⟨i, _⟩ => hbmTy i
  | _, _ => ⟨S4x128x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_5 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_8 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_c : Ref sig .tc := ⟨.hbm, 81, rfl⟩
abbrev main_c_9 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v69 : Ref sig .tc := ⟨.hbm, 88, rfl⟩
abbrev main_v70 : Ref sig .tc := ⟨.hbm, 89, rfl⟩
abbrev main_c_10 : Ref sig .tc := ⟨.hbm, 90, rfl⟩
abbrev main_v71 : Ref sig .tc := ⟨.hbm, 91, rfl⟩
abbrev main_v72 : Ref sig .tc := ⟨.hbm, 92, rfl⟩
abbrev main_c_11 : Ref sig .tc := ⟨.hbm, 93, rfl⟩
abbrev main_c_12 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_15 : Ref sig .tc := ⟨.hbm, 111, rfl⟩
abbrev main_c_16 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_c_19 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_v86 : Ref sig .tc := ⟨.hbm, 130, rfl⟩
abbrev main_cst_20 : Ref sig .tc := ⟨.hbm, 131, rfl⟩
abbrev main_v87 : Ref sig .tc := ⟨.hbm, 132, rfl⟩
abbrev main_v88 : Ref sig .tc := ⟨.hbm, 133, rfl⟩
abbrev main_cst_21 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_22 : Ref sig .tc := ⟨.hbm, 141, rfl⟩
abbrev main_c_23 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_v95 : Ref sig .tc := ⟨.hbm, 148, rfl⟩
abbrev main_v96 : Ref sig .tc := ⟨.hbm, 149, rfl⟩
abbrev main_c_24 : Ref sig .tc := ⟨.hbm, 150, rfl⟩
abbrev main_v97 : Ref sig .tc := ⟨.hbm, 151, rfl⟩
abbrev main_v98 : Ref sig .tc := ⟨.hbm, 152, rfl⟩
abbrev main_c_25 : Ref sig .tc := ⟨.hbm, 153, rfl⟩
abbrev main_c_26 : Ref sig .tc := ⟨.hbm, 154, rfl⟩
abbrev main_call5_v0 : Ref sig .tc := ⟨.hbm, 155, rfl⟩
abbrev main_call5_v1 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_v99 : Ref sig .tc := ⟨.hbm, 160, rfl⟩
abbrev main_cst_27 : Ref sig .tc := ⟨.hbm, 161, rfl⟩
abbrev main_v100 : Ref sig .tc := ⟨.hbm, 162, rfl⟩
abbrev main_v101 : Ref sig .tc := ⟨.hbm, 163, rfl⟩
abbrev main_cst_28 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_cst_29 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_30 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_31 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_c_32 : Ref sig .tc := ⟨.hbm, 184, rfl⟩
abbrev main_v118 : Ref sig .tc := ⟨.hbm, 185, rfl⟩
abbrev main_v119 : Ref sig .tc := ⟨.hbm, 186, rfl⟩
abbrev main_c_33 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_c_34 : Ref sig .tc := ⟨.hbm, 191, rfl⟩
abbrev main_v123 : Ref sig .tc := ⟨.hbm, 192, rfl⟩
abbrev main_v124 : Ref sig .tc := ⟨.hbm, 193, rfl⟩
abbrev main_c_35 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_c_36 : Ref sig .tc := ⟨.hbm, 198, rfl⟩
abbrev main_v128 : Ref sig .tc := ⟨.hbm, 199, rfl⟩
abbrev main_v129 : Ref sig .tc := ⟨.hbm, 200, rfl⟩
abbrev main_c_37 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_c_38 : Ref sig .tc := ⟨.hbm, 205, rfl⟩
abbrev main_v133 : Ref sig .tc := ⟨.hbm, 206, rfl⟩
abbrev main_v134 : Ref sig .tc := ⟨.hbm, 207, rfl⟩
abbrev main_c_39 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_c_40 : Ref sig .tc := ⟨.hbm, 234, rfl⟩
abbrev main_v160 : Ref sig .tc := ⟨.hbm, 235, rfl⟩
abbrev main_v161 : Ref sig .tc := ⟨.hbm, 236, rfl⟩
abbrev main_c_41 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_c_42 : Ref sig .tc := ⟨.hbm, 241, rfl⟩
abbrev main_v165 : Ref sig .tc := ⟨.hbm, 242, rfl⟩
abbrev main_v166 : Ref sig .tc := ⟨.hbm, 243, rfl⟩
abbrev main_c_43 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_c_44 : Ref sig .tc := ⟨.hbm, 248, rfl⟩
abbrev main_v170 : Ref sig .tc := ⟨.hbm, 249, rfl⟩
abbrev main_v171 : Ref sig .tc := ⟨.hbm, 250, rfl⟩
abbrev main_c_45 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_c_46 : Ref sig .tc := ⟨.hbm, 255, rfl⟩
abbrev main_v175 : Ref sig .tc := ⟨.hbm, 256, rfl⟩
abbrev main_v176 : Ref sig .tc := ⟨.hbm, 257, rfl⟩
abbrev main_c_47 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_c_48 : Ref sig .tc := ⟨.hbm, 285, rfl⟩
abbrev main_v203 : Ref sig .tc := ⟨.hbm, 286, rfl⟩
abbrev main_v204 : Ref sig .tc := ⟨.hbm, 287, rfl⟩
abbrev main_c_49 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_c_50 : Ref sig .tc := ⟨.hbm, 292, rfl⟩
abbrev main_v208 : Ref sig .tc := ⟨.hbm, 293, rfl⟩
abbrev main_v209 : Ref sig .tc := ⟨.hbm, 294, rfl⟩
abbrev main_c_51 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_c_52 : Ref sig .tc := ⟨.hbm, 299, rfl⟩
abbrev main_v213 : Ref sig .tc := ⟨.hbm, 300, rfl⟩
abbrev main_v214 : Ref sig .tc := ⟨.hbm, 301, rfl⟩
abbrev main_c_53 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_c_54 : Ref sig .tc := ⟨.hbm, 306, rfl⟩
abbrev main_v218 : Ref sig .tc := ⟨.hbm, 307, rfl⟩
abbrev main_v219 : Ref sig .tc := ⟨.hbm, 308, rfl⟩
abbrev main_c_55 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_c_56 : Ref sig .tc := ⟨.hbm, 336, rfl⟩
abbrev main_v246 : Ref sig .tc := ⟨.hbm, 337, rfl⟩
abbrev main_v247 : Ref sig .tc := ⟨.hbm, 338, rfl⟩
abbrev main_c_57 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_c_58 : Ref sig .tc := ⟨.hbm, 343, rfl⟩
abbrev main_v251 : Ref sig .tc := ⟨.hbm, 344, rfl⟩
abbrev main_v252 : Ref sig .tc := ⟨.hbm, 345, rfl⟩
abbrev main_c_59 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_c_60 : Ref sig .tc := ⟨.hbm, 350, rfl⟩
abbrev main_v256 : Ref sig .tc := ⟨.hbm, 351, rfl⟩
abbrev main_v257 : Ref sig .tc := ⟨.hbm, 352, rfl⟩
abbrev main_c_61 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_c_62 : Ref sig .tc := ⟨.hbm, 357, rfl⟩
abbrev main_v261 : Ref sig .tc := ⟨.hbm, 358, rfl⟩
abbrev main_v262 : Ref sig .tc := ⟨.hbm, 359, rfl⟩
abbrev main_c_63 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_v276 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_v280 : Ref sig .tc := ⟨.hbm, 378, rfl⟩
abbrev main_v281 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_c_64 : Ref sig .tc := ⟨.hbm, 387, rfl⟩
abbrev main_v289 : Ref sig .tc := ⟨.hbm, 388, rfl⟩
abbrev main_v290 : Ref sig .tc := ⟨.hbm, 389, rfl⟩
abbrev main_c_65 : Ref sig .tc := ⟨.hbm, 390, rfl⟩
abbrev main_v291 : Ref sig .tc := ⟨.hbm, 391, rfl⟩
abbrev main_v292 : Ref sig .tc := ⟨.hbm, 392, rfl⟩
abbrev main_v293 : Ref sig .tc := ⟨.hbm, 393, rfl⟩
abbrev main_c_66 : Ref sig .tc := ⟨.hbm, 394, rfl⟩
abbrev main_v294 : Ref sig .tc := ⟨.hbm, 395, rfl⟩
abbrev main_v295 : Ref sig .tc := ⟨.hbm, 396, rfl⟩
abbrev main_c_67 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_c_68 : Ref sig .tc := ⟨.hbm, 401, rfl⟩
abbrev main_v299 : Ref sig .tc := ⟨.hbm, 402, rfl⟩
abbrev main_v300 : Ref sig .tc := ⟨.hbm, 403, rfl⟩
abbrev main_c_69 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_c_70 : Ref sig .tc := ⟨.hbm, 408, rfl⟩
abbrev main_v304 : Ref sig .tc := ⟨.hbm, 409, rfl⟩
abbrev main_v305 : Ref sig .tc := ⟨.hbm, 410, rfl⟩
abbrev main_c_71 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_v321 : Ref sig .tc := ⟨.hbm, 427, rfl⟩
abbrev main_v322 : Ref sig .tc := ⟨.hbm, 428, rfl⟩
abbrev main_v323 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩
abbrev main_v331 : Ref sig .tc := ⟨.hbm, 437, rfl⟩
abbrev main_c_72 : Ref sig .tc := ⟨.hbm, 438, rfl⟩
abbrev main_v332 : Ref sig .tc := ⟨.hbm, 439, rfl⟩
abbrev main_v333 : Ref sig .tc := ⟨.hbm, 440, rfl⟩
abbrev main_c_73 : Ref sig .tc := ⟨.hbm, 441, rfl⟩
abbrev main_v334 : Ref sig .tc := ⟨.hbm, 442, rfl⟩
abbrev main_v335 : Ref sig .tc := ⟨.hbm, 443, rfl⟩
abbrev main_v336 : Ref sig .tc := ⟨.hbm, 444, rfl⟩
abbrev main_c_74 : Ref sig .tc := ⟨.hbm, 445, rfl⟩
abbrev main_v337 : Ref sig .tc := ⟨.hbm, 446, rfl⟩
abbrev main_v338 : Ref sig .tc := ⟨.hbm, 447, rfl⟩
abbrev main_c_75 : Ref sig .tc := ⟨.hbm, 448, rfl⟩
abbrev main_v339 : Ref sig .tc := ⟨.hbm, 449, rfl⟩
abbrev main_v340 : Ref sig .tc := ⟨.hbm, 450, rfl⟩
abbrev main_v341 : Ref sig .tc := ⟨.hbm, 451, rfl⟩
abbrev main_c_76 : Ref sig .tc := ⟨.hbm, 452, rfl⟩
abbrev main_v342 : Ref sig .tc := ⟨.hbm, 453, rfl⟩
abbrev main_v343 : Ref sig .tc := ⟨.hbm, 454, rfl⟩
abbrev main_c_77 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_c_78 : Ref sig .tc := ⟨.hbm, 459, rfl⟩
abbrev main_v347 : Ref sig .tc := ⟨.hbm, 460, rfl⟩
abbrev main_v348 : Ref sig .tc := ⟨.hbm, 461, rfl⟩
abbrev main_c_79 : Ref sig .tc := ⟨.hbm, 462, rfl⟩
abbrev main_v349 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_v357 : Ref sig .tc := ⟨.hbm, 471, rfl⟩
abbrev main_v358 : Ref sig .tc := ⟨.hbm, 472, rfl⟩
abbrev main_v359 : Ref sig .tc := ⟨.hbm, 473, rfl⟩
abbrev main_v360 : Ref sig .tc := ⟨.hbm, 474, rfl⟩
abbrev main_v361 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_v366 : Ref sig .tc := ⟨.hbm, 480, rfl⟩
abbrev main_v367 : Ref sig .tc := ⟨.hbm, 481, rfl⟩
abbrev main_v368 : Ref sig .tc := ⟨.hbm, 482, rfl⟩
abbrev main_v369 : Ref sig .tc := ⟨.hbm, 483, rfl⟩
abbrev main_v370 : Ref sig .tc := ⟨.hbm, 484, rfl⟩
abbrev main_v371 : Ref sig .tc := ⟨.hbm, 485, rfl⟩
abbrev main_v372 : Ref sig .tc := ⟨.hbm, 486, rfl⟩
abbrev main_v373 : Ref sig .tc := ⟨.hbm, 487, rfl⟩
abbrev main_v374 : Ref sig .tc := ⟨.hbm, 488, rfl⟩
abbrev main_c_80 : Ref sig .tc := ⟨.hbm, 489, rfl⟩
abbrev main_v375 : Ref sig .tc := ⟨.hbm, 490, rfl⟩
abbrev main_v376 : Ref sig .tc := ⟨.hbm, 491, rfl⟩
abbrev main_c_81 : Ref sig .tc := ⟨.hbm, 492, rfl⟩
abbrev main_v377 : Ref sig .tc := ⟨.hbm, 493, rfl⟩
abbrev main_v378 : Ref sig .tc := ⟨.hbm, 494, rfl⟩
abbrev main_v379 : Ref sig .tc := ⟨.hbm, 495, rfl⟩
abbrev main_c_82 : Ref sig .tc := ⟨.hbm, 496, rfl⟩
abbrev main_v380 : Ref sig .tc := ⟨.hbm, 497, rfl⟩
abbrev main_v381 : Ref sig .tc := ⟨.hbm, 498, rfl⟩
abbrev main_c_83 : Ref sig .tc := ⟨.hbm, 499, rfl⟩
abbrev main_v382 : Ref sig .tc := ⟨.hbm, 500, rfl⟩
abbrev main_v383 : Ref sig .tc := ⟨.hbm, 501, rfl⟩
abbrev main_v384 : Ref sig .tc := ⟨.hbm, 502, rfl⟩
abbrev main_c_84 : Ref sig .tc := ⟨.hbm, 503, rfl⟩
abbrev main_v385 : Ref sig .tc := ⟨.hbm, 504, rfl⟩
abbrev main_v386 : Ref sig .tc := ⟨.hbm, 505, rfl⟩
abbrev main_c_85 : Ref sig .tc := ⟨.hbm, 506, rfl⟩
abbrev main_v387 : Ref sig .tc := ⟨.hbm, 507, rfl⟩
abbrev main_v388 : Ref sig .tc := ⟨.hbm, 508, rfl⟩
abbrev main_v389 : Ref sig .tc := ⟨.hbm, 509, rfl⟩
abbrev main_c_86 : Ref sig .tc := ⟨.hbm, 510, rfl⟩
abbrev main_v390 : Ref sig .tc := ⟨.hbm, 511, rfl⟩
abbrev main_v391 : Ref sig .tc := ⟨.hbm, 512, rfl⟩
abbrev main_c_87 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_v395 : Ref sig .tc := ⟨.hbm, 517, rfl⟩
abbrev main_v396 : Ref sig .tc := ⟨.hbm, 518, rfl⟩
abbrev main_v397 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_v402 : Ref sig .tc := ⟨.hbm, 524, rfl⟩
abbrev main_v403 : Ref sig .tc := ⟨.hbm, 525, rfl⟩
abbrev main_v404 : Ref sig .tc := ⟨.hbm, 526, rfl⟩
abbrev main_v405 : Ref sig .tc := ⟨.hbm, 527, rfl⟩
abbrev main_v406 : Ref sig .tc := ⟨.hbm, 528, rfl⟩
abbrev main_v407 : Ref sig .tc := ⟨.hbm, 529, rfl⟩
abbrev main_v408 : Ref sig .tc := ⟨.hbm, 530, rfl⟩
abbrev main_v409 : Ref sig .tc := ⟨.hbm, 531, rfl⟩
abbrev main_v410 : Ref sig .tc := ⟨.hbm, 532, rfl⟩
abbrev main_v411 : Ref sig .tc := ⟨.hbm, 533, rfl⟩
abbrev main_v412 : Ref sig .tc := ⟨.hbm, 534, rfl⟩
abbrev main_v413 : Ref sig .tc := ⟨.hbm, 535, rfl⟩
abbrev main_v414 : Ref sig .tc := ⟨.hbm, 536, rfl⟩
abbrev main_v415 : Ref sig .tc := ⟨.hbm, 537, rfl⟩
abbrev main_v416 : Ref sig .tc := ⟨.hbm, 538, rfl⟩
abbrev main_v417 : Ref sig .tc := ⟨.hbm, 539, rfl⟩
abbrev main_c_88 : Ref sig .tc := ⟨.hbm, 540, rfl⟩
abbrev main_v418 : Ref sig .tc := ⟨.hbm, 541, rfl⟩
abbrev main_v419 : Ref sig .tc := ⟨.hbm, 542, rfl⟩
abbrev main_c_89 : Ref sig .tc := ⟨.hbm, 543, rfl⟩
abbrev main_v420 : Ref sig .tc := ⟨.hbm, 544, rfl⟩
abbrev main_v421 : Ref sig .tc := ⟨.hbm, 545, rfl⟩
abbrev main_v422 : Ref sig .tc := ⟨.hbm, 546, rfl⟩
abbrev main_c_90 : Ref sig .tc := ⟨.hbm, 547, rfl⟩
abbrev main_v423 : Ref sig .tc := ⟨.hbm, 548, rfl⟩
abbrev main_v424 : Ref sig .tc := ⟨.hbm, 549, rfl⟩
abbrev main_c_91 : Ref sig .tc := ⟨.hbm, 550, rfl⟩
abbrev main_v425 : Ref sig .tc := ⟨.hbm, 551, rfl⟩
abbrev main_v426 : Ref sig .tc := ⟨.hbm, 552, rfl⟩
abbrev main_v427 : Ref sig .tc := ⟨.hbm, 553, rfl⟩
abbrev main_c_92 : Ref sig .tc := ⟨.hbm, 554, rfl⟩
abbrev main_v428 : Ref sig .tc := ⟨.hbm, 555, rfl⟩
abbrev main_v429 : Ref sig .tc := ⟨.hbm, 556, rfl⟩
abbrev main_c_93 : Ref sig .tc := ⟨.hbm, 557, rfl⟩
abbrev main_v430 : Ref sig .tc := ⟨.hbm, 558, rfl⟩
abbrev main_v431 : Ref sig .tc := ⟨.hbm, 559, rfl⟩
abbrev main_v432 : Ref sig .tc := ⟨.hbm, 560, rfl⟩
abbrev main_c_94 : Ref sig .tc := ⟨.hbm, 561, rfl⟩
abbrev main_v433 : Ref sig .tc := ⟨.hbm, 562, rfl⟩
abbrev main_v434 : Ref sig .tc := ⟨.hbm, 563, rfl⟩
abbrev main_c_95 : Ref sig .tc := ⟨.hbm, 564, rfl⟩
abbrev main_v435 : Ref sig .tc := ⟨.hbm, 565, rfl⟩
abbrev main_v436 : Ref sig .tc := ⟨.hbm, 566, rfl⟩
abbrev main_v437 : Ref sig .tc := ⟨.hbm, 567, rfl⟩
abbrev main_v438 : Ref sig .tc := ⟨.hbm, 568, rfl⟩
abbrev main_v439 : Ref sig .tc := ⟨.hbm, 569, rfl⟩
abbrev main_v440 : Ref sig .tc := ⟨.hbm, 570, rfl⟩
abbrev main_v441 : Ref sig .tc := ⟨.hbm, 571, rfl⟩
abbrev main_v442 : Ref sig .tc := ⟨.hbm, 572, rfl⟩
abbrev main_v443 : Ref sig .tc := ⟨.hbm, 573, rfl⟩
abbrev main_v444 : Ref sig .tc := ⟨.hbm, 574, rfl⟩
abbrev main_v445 : Ref sig .tc := ⟨.hbm, 575, rfl⟩
abbrev main_v446 : Ref sig .tc := ⟨.hbm, 576, rfl⟩
abbrev main_v447 : Ref sig .tc := ⟨.hbm, 577, rfl⟩
abbrev main_v448 : Ref sig .tc := ⟨.hbm, 578, rfl⟩
abbrev main_v449 : Ref sig .tc := ⟨.hbm, 579, rfl⟩
abbrev main_v450 : Ref sig .tc := ⟨.hbm, 580, rfl⟩
abbrev main_v451 : Ref sig .tc := ⟨.hbm, 581, rfl⟩
abbrev main_v452 : Ref sig .tc := ⟨.hbm, 582, rfl⟩
abbrev main_v453 : Ref sig .tc := ⟨.hbm, 583, rfl⟩
abbrev main_v454 : Ref sig .tc := ⟨.hbm, 584, rfl⟩
abbrev main_v455 : Ref sig .tc := ⟨.hbm, 585, rfl⟩
abbrev main_v456 : Ref sig .tc := ⟨.hbm, 586, rfl⟩
abbrev main_v457 : Ref sig .tc := ⟨.hbm, 587, rfl⟩
abbrev main_v458 : Ref sig .tc := ⟨.hbm, 588, rfl⟩
abbrev main_v459 : Ref sig .tc := ⟨.hbm, 589, rfl⟩
abbrev main_v460 : Ref sig .tc := ⟨.hbm, 590, rfl⟩
abbrev main_v461 : Ref sig .tc := ⟨.hbm, 591, rfl⟩
abbrev main_v462 : Ref sig .tc := ⟨.hbm, 592, rfl⟩
abbrev main_v463 : Ref sig .tc := ⟨.hbm, 593, rfl⟩
abbrev main_v464 : Ref sig .tc := ⟨.hbm, 594, rfl⟩
abbrev main_v465 : Ref sig .tc := ⟨.hbm, 595, rfl⟩
abbrev main_v466 : Ref sig .tc := ⟨.hbm, 596, rfl⟩
abbrev main_v467 : Ref sig .tc := ⟨.hbm, 597, rfl⟩
abbrev main_cst_96 : Ref sig .tc := ⟨.hbm, 598, rfl⟩
abbrev main_call6_v0 : Ref sig .tc := ⟨.hbm, 599, rfl⟩
abbrev main_call6_v1 : Ref sig .tc := ⟨.hbm, 600, rfl⟩
abbrev main_v468 : Ref sig .tc := ⟨.hbm, 601, rfl⟩
abbrev main_v469 : Ref sig .tc := ⟨.hbm, 602, rfl⟩

abbrev nD : Nat := 1
abbrev τ : Topo := Topo.v7x

variable {F : FTy → Type} [FloatOps F]
-- ==== Proof.Trip.lean ====
module

public import proofs.«01_k».proof.Proof.Gen.KernelIdeal.Skeleton

@[expose] public section

noncomputable section

namespace Cert.Proof

open Cert.KernelIdeal Cert.KernelIdeal.Gen Idealize.ShloMosaic Idealize.SL.Sem

variable {F : FTy → Type} [FloatOps F]

/-- The offsets one trip of an inner loop reads and writes at: the sixteen weights, the gathered rows (column group, half, corner) and the
    sixteen-word pieces of the staged output (half, column group). -/
structure Offs where
  w : Fin 2 → ℕ
  hw : ∀ a, w a + S1x16.size a ≤ S196x112.size a
  r : Fin 8 → Fin 2 → Fin 8 → Fin 2 → ℕ
  hr : ∀ g h k a, r g h k a + S1x16.size a ≤ S112x128.size a
  o : Fin 2 → Fin 8 → Fin 1 → ℕ
  ho : ∀ h g a, o h g a + S16.size a ≤ S7168.size a

/-- Weight `n` of the sixteen a trip loads. -/
def lane (w : Vec F S1x16 .f32) (n : ℕ) (h : S16.Slices ![n] S1) : F .f32 :=
  extractAt ![0] (extractStridedSlice S1 ![n] (shapeCast S16 w shapeCasts_S1x16_S16) h) inpos_S1_p0

/-- A half's eight weights. -/
def lanes (w : Vec F S1x16 .f32) : Fin 2 → Fin 8 → F .f32
  | 0 => ![lane w 0 slices_S16_o0_S1, lane w 1 slices_S16_o1_S1, lane w 2 slices_S16_o2_S1, lane w 3 slices_S16_o3_S1,
      lane w 4 slices_S16_o4_S1, lane w 5 slices_S16_o5_S1, lane w 6 slices_S16_o6_S1, lane w 7 slices_S16_o7_S1]
  | 1 => ![lane w 8 slices_S16_o8_S1, lane w 9 slices_S16_o9_S1, lane w 10 slices_S16_o10_S1, lane w 11 slices_S16_o11_S1,
      lane w 12 slices_S16_o12_S1, lane w 13 slices_S16_o13_S1, lane w 14 slices_S16_o14_S1, lane w 15 slices_S16_o15_S1]

/-- One corner's product. -/
def term (w : F .f32) (v : Vec F S1x16 .f32) : FVec F S16 .f32 := mulf (broadcast S16 w) (shapeCast S16 v shapeCasts_S1x16_S16)

/-- The weighted sum of eight corners, in the kernel's order. -/
def acc (ws : Fin 8 → F .f32) (v0 v1 v2 v3 v4 v5 v6 v7 : Vec F S1x16 .f32) : FVec F S16 .f32 :=
  shapeCast S16 (addf (addf (addf (term (ws 0) v0) (term (ws 1) v1)) (addf (term (ws 2) v2) (term (ws 3) v3)))
    (addf (addf (term (ws 4) v4) (term (ws 5) v5)) (addf (term (ws 6) v6) (term (ws 7) v7)))) shapeCasts_S16_S16

/-- A tile's thread. -/
abbrev vp (i : grid1.Coords) : Proc τ := .scVector ((i 0).castLE hcore1) ((i 1).castLE hsub1)

/-- A tile's program. -/
abbrev TileProg (F : FTy → Type) (i : grid1.Coords) (α : Type) : Type 1 := Prog (TpuEff nD τ sig (Elt F) Λ₀ (vp i)) α

variable {i : grid1.Coords}

/-- Sixteen channels of a half's eight corners: the eight rows' loads, the load of the place written (its value is not used) and the store of
    the weighted sum. -/
def group (O : Offs) (rows : Memref sig .scVector .vmem S112x128 .f32) (out : Memref sig .scVector .vmem S7168 .f32) (ws : Fin 8 → F .f32)
    (h : Fin 2) (g : Fin 8) (rest : TileProg F i Unit) : TileProg F i Unit :=
  .op (.load rows (Rect.unit (s := S112x128) (O.r g h 0) S1x16.size (O.hr g h 0)).toLoadRect (View.loadsAt_vmem h_S1x16)) fun v0 =>
  .op (.load rows (Rect.unit (s := S112x128) (O.r g h 1) S1x16.size (O.hr g h 1)).toLoadRect (View.loadsAt_vmem h_S1x16)) fun v1 =>
  .op (.load rows (Rect.unit (s := S112x128) (O.r g h 2) S1x16.size (O.hr g h 2)).toLoadRect (View.loadsAt_vmem h_S1x16)) fun v2 =>
  .op (.load rows (Rect.unit (s := S112x128) (O.r g h 3) S1x16.size (O.hr g h 3)).toLoadRect (View.loadsAt_vmem h_S1x16)) fun v3 =>
  .op (.load rows (Rect.unit (s := S112x128) (O.r g h 4) S1x16.size (O.hr g h 4)).toLoadRect (View.loadsAt_vmem h_S1x16)) fun v4 =>
  .op (.load rows (Rect.unit (s := S112x128) (O.r g h 5) S1x16.size (O.hr g h 5)).toLoadRect (View.loadsAt_vmem h_S1x16)) fun v5 =>
  .op (.load rows (Rect.unit (s := S112x128) (O.r g h 6) S1x16.size (O.hr g h 6)).toLoadRect (View.loadsAt_vmem h_S1x16)) fun v6 =>
  .op (.load rows (Rect.unit (s := S112x128) (O.r g h 7) S1x16.size (O.hr g h 7)).toLoadRect (View.loadsAt_vmem h_S1x16)) fun v7 =>
  .op (.load out (Rect.unit (s := S7168) (O.o h g) S16.size (O.ho h g)).toLoadRect (View.loadsAt_vmem h_S16)) fun _ =>
  .op (.store out (Rect.unit (s := S7168) (O.o h g) S16.size (O.ho h g)) (acc ws v0 v1 v2 v3 v4 v5 v6 v7) Finset.univ
    (View.stores_vmem_bits_univ h_S16 rfl) (.inl rfl)) fun _ => rest

/-- The eight column groups of one half. -/
def half (O : Offs) (rows : Memref sig .scVector .vmem S112x128 .f32) (out : Memref sig .scVector .vmem S7168 .f32) (ws : Fin 8 → F .f32)
    (h : Fin 2) (rest : TileProg F i Unit) : TileProg F i Unit :=
  group O rows out ws h 0 <| group O rows out ws h 1 <| group O rows out ws h 2 <| group O rows out ws h 3 <|
    group O rows out ws h 4 <| group O rows out ws h 5 <| group O rows out ws h 6 <| group O rows out ws h 7 rest

/-- One trip of an inner loop: the sixteen weights, then two halves. -/
def trip (O : Offs) (wv : Memref sig .scVector .vmem S196x112 .f32) (rows : Memref sig .scVector .vmem S112x128 .f32)
    (out : Memref sig .scVector .vmem S7168 .f32) : TileProg F i Unit :=
  .op (.load wv (Rect.unit (s := S196x112) O.w S1x16.size O.hw).toLoadRect (View.loadsAt_vmem h_S1x16)) fun w =>
    half O rows out (lanes w 0) 0 <| half O rows out (lanes w 1) 1 <| .ret ⟨⟩

/-- The offsets of the first slot's loop. -/
def offs0 (k1_t1 : Fin k1_t1_loop.trips) (t : Fin k1_t2_loop.trips) : Offs where
  w := k1_off3 k1_t1 t
  hw := k1_off3_inb k1_t1 t
  r g h k := match g with
    | 0 => k1_off4 t (BitVec.ofNat 32 (8 * h.val)) (BitVec.ofNat 32 k.val)
    | 1 => k1_off6 t (BitVec.ofNat 32 (8 * h.val)) (BitVec.ofNat 32 k.val)
    | 2 => k1_off7 t (BitVec.ofNat 32 (8 * h.val)) (BitVec.ofNat 32 k.val)
    | 3 => k1_off8 t (BitVec.ofNat 32 (8 * h.val)) (BitVec.ofNat 32 k.val)
    | 4 => k1_off9 t (BitVec.ofNat 32 (8 * h.val)) (BitVec.ofNat 32 k.val)
    | 5 => k1_off10 t (BitVec.ofNat 32 (8 * h.val)) (BitVec.ofNat 32 k.val)
    | 6 => k1_off11 t (BitVec.ofNat 32 (8 * h.val)) (BitVec.ofNat 32 k.val)
    | 7 => k1_off12 t (BitVec.ofNat 32 (8 * h.val)) (BitVec.ofNat 32 k.val)
  hr g h k := match g with
    | 0 => k1_off4_inb t h k
    | 1 => k1_off6_inb t h k
    | 2 => k1_off7_inb t h k
    | 3 => k1_off8_inb t h k
    | 4 => k1_off9_inb t h k
    | 5 => k1_off10_inb t h k
    | 6 => k1_off11_inb t h k
    | 7 => k1_off12_inb t h k
  o h g := k1_off5 t (BitVec.ofNat 32 h.val) (BitVec.ofNat 32 (16 * g.val))
  ho h g := k1_off5_inb t h g

/-- The offsets of the second slot's loop. -/
def offs1 (k1_t1 : Fin k1_t1_loop.trips) (t : Fin k1_t3_loop.trips) : Offs where
  w := k1_off14 k1_t1 t
  hw := k1_off14_inb k1_t1 t
  r g h k := match g with
    | 0 => k1_off15 t (BitVec.ofNat 32 (8 * h.val)) (BitVec.ofNat 32 k.val)
    | 1 => k1_off17 t (BitVec.ofNat 32 (8 * h.val)) (BitVec.ofNat 32 k.val)
    | 2 => k1_off18 t (BitVec.ofNat 32 (8 * h.val)) (BitVec.ofNat 32 k.val)
    | 3 => k1_off19 t (BitVec.ofNat 32 (8 * h.val)) (BitVec.ofNat 32 k.val)
    | 4 => k1_off20 t (BitVec.ofNat 32 (8 * h.val)) (BitVec.ofNat 32 k.val)
    | 5 => k1_off21 t (BitVec.ofNat 32 (8 * h.val)) (BitVec.ofNat 32 k.val)
    | 6 => k1_off22 t (BitVec.ofNat 32 (8 * h.val)) (BitVec.ofNat 32 k.val)
    | 7 => k1_off23 t (BitVec.ofNat 32 (8 * h.val)) (BitVec.ofNat 32 k.val)
  hr g h k := match g with
    | 0 => k1_off15_inb t h k
    | 1 => k1_off17_inb t h k
    | 2 => k1_off18_inb t h k
    | 3 => k1_off19_inb t h k
    | 4 => k1_off20_inb t h k
    | 5 => k1_off21_inb t h k
    | 6 => k1_off22_inb t h k
    | 7 => k1_off23_inb t h k
  o h g := k1_off16 t (BitVec.ofNat 32 h.val) (BitVec.ofNat 32 (16 * g.val))
  ho h g := k1_off16_inb t h g

/-- The offsets of the third slot's loop. -/
def offs2 (k1_t1 : Fin k1_t1_loop.trips) (t : Fin k1_t4_loop.trips) : Offs where
  w := k1_off25 k1_t1 t
  hw := k1_off25_inb k1_t1 t
  r g h k := match g with
    | 0 => k1_off26 t (BitVec.ofNat 32 (8 * h.val)) (BitVec.ofNat 32 k.val)
    | 1 => k1_off28 t (BitVec.ofNat 32 (8 * h.val)) (BitVec.ofNat 32 k.val)
    | 2 => k1_off29 t (BitVec.ofNat 32 (8 * h.val)) (BitVec.ofNat 32 k.val)
    | 3 => k1_off30 t (BitVec.ofNat 32 (8 * h.val)) (BitVec.ofNat 32 k.val)
    | 4 => k1_off31 t (BitVec.ofNat 32 (8 * h.val)) (BitVec.ofNat 32 k.val)
    | 5 => k1_off32 t (BitVec.ofNat 32 (8 * h.val)) (BitVec.ofNat 32 k.val)
    | 6 => k1_off33 t (BitVec.ofNat 32 (8 * h.val)) (BitVec.ofNat 32 k.val)
    | 7 => k1_off34 t (BitVec.ofNat 32 (8 * h.val)) (BitVec.ofNat 32 k.val)
  hr g h k := match g with
    | 0 => k1_off26_inb t h k
    | 1 => k1_off28_inb t h k
    | 2 => k1_off29_inb t h k
    | 3 => k1_off30_inb t h k
    | 4 => k1_off31_inb t h k
    | 5 => k1_off32_inb t h k
    | 6 => k1_off33_inb t h k
    | 7 => k1_off34_inb t h k
  o h g := k1_off27 t (BitVec.ofNat 32 h.val) (BitVec.ofNat 32 (16 * g.val))
  ho h g := k1_off27_inb t h g

/-- The offsets of the fourth slot's loop. -/
def offs3 (k1_t1 : Fin k1_t1_loop.trips) (t : Fin k1_t5_loop.trips) : Offs where
  w := k1_off36 k1_t1 t
  hw := k1_off36_inb k1_t1 t
  r g h k := match g with
    | 0 => k1_off37 t (BitVec.ofNat 32 (8 * h.val)) (BitVec.ofNat 32 k.val)
    | 1 => k1_off39 t (BitVec.ofNat 32 (8 * h.val)) (BitVec.ofNat 32 k.val)
    | 2 => k1_off40 t (BitVec.ofNat 32 (8 * h.val)) (BitVec.ofNat 32 k.val)
    | 3 => k1_off41 t (BitVec.ofNat 32 (8 * h.val)) (BitVec.ofNat 32 k.val)
    | 4 => k1_off42 t (BitVec.ofNat 32 (8 * h.val)) (BitVec.ofNat 32 k.val)
    | 5 => k1_off43 t (BitVec.ofNat 32 (8 * h.val)) (BitVec.ofNat 32 k.val)
    | 6 => k1_off44 t (BitVec.ofNat 32 (8 * h.val)) (BitVec.ofNat 32 k.val)
    | 7 => k1_off45 t (BitVec.ofNat 32 (8 * h.val)) (BitVec.ofNat 32 k.val)
  hr g h k := match g with
    | 0 => k1_off37_inb t h k
    | 1 => k1_off39_inb t h k
    | 2 => k1_off40_inb t h k
    | 3 => k1_off41_inb t h k
    | 4 => k1_off42_inb t h k
    | 5 => k1_off43_inb t h k
    | 6 => k1_off44_inb t h k
    | 7 => k1_off45_inb t h k
  o h g := k1_off38 t (BitVec.ofNat 32 h.val) (BitVec.ofNat 32 (16 * g.val))
  ho h g := k1_off38_inb t h g

end Cert.Proof
-- ==== Proof.Base.lean ====
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## Where things are -/

abbrev cV (L : grid1.Coords) : Fin τ.nSC := (L 0).castLE hcore1
abbrev jV (L : grid1.Coords) : Fin τ.nSub := (L 1).castLE hsub1
/-- The thread of tile `L` of device `d`. -/
abbrev tV (d : Dev nD) (L : grid1.Coords) : Thread nD τ := V d (cV L) (jV L)

end Cert.Proof
-- ==== Proof.Blk.lean ====
module

public import proofs.«01_k».proof.Proof.Base
public import proofs.«01_k».proof.Proof.Gen.KernelIdeal.Skeleton
public import proofs.«01_k».proof.Proof.Gen.KernelIdeal.Points
public import Idealize.ShloMosaic.Lib.WritesUnit

@[expose] public section

noncomputable section

namespace Cert.Proof

open Cert.KernelIdeal Cert.KernelIdeal.Gen
open Idealize.ShloMosaic
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What the body leaves in the two output blocks, as functions of the block of regions -/

theorem inbC (k : Fin 7) : ∀ a, (![0, k.val] : Fin 2 → ℕ) a + S32x1.size a ≤ S32x7.size a := by
  intro a
  have := k.isLt
  fin_cases a
  · show 0 + 32 ≤ 32; omega
  · show k.val + 1 ≤ 7; omega

/-- Column `k` of a block of thirty-two regions. -/
def colB (x : S32x7.Idx → F .f32) (k : Fin 7) : FVec F S32x1 .f32 := fun y => x ((Rect.unit (s := S32x7) ![0, k.val] S32x1.size (inbC k)).emb y)

abbrev ioB : IVec S32x2744 32 := iota .tc S32x2744 32 [1] iota_S32x2744_d1_w32

/-- The table row each column of a block of regions names. -/
def idxB (x : S32x7.Idx → F .f32) : IVec S32x2744 32 :=
  k0_pay33 k0_pay3 (k0_pay10 ioB) (k0_pay13 (colB x 2)) (k0_pay15 (colB x 5)) (k0_pay16 (colB x 6))
    (k0_pay21 (k0_pay7 ioB) (k0_pay17 (k0_pay6 k0_pay2) (colB x 0) (colB x 3)) (k0_pay18 (colB x 0)))
    (k0_pay26 (k0_pay5 k0_pay4 7#32 0#32) (k0_pay9 (k0_pay8 ioB)) (k0_pay12 (colB x 1)) (k0_pay14 (colB x 4)))

/-- Its weight. -/
def wB (x : S32x7.Idx → F .f32) : FVec F S32x2744 .f32 :=
  k0_pay1 (k0_pay22 (k0_pay7 ioB) (k0_pay17 (k0_pay6 k0_pay2) (colB x 0) (colB x 3)) (k0_pay18 (colB x 0)))
    (k0_pay27 (k0_pay5 k0_pay4 7#32 0#32) (k0_pay9 (k0_pay8 ioB)) (k0_pay12 (colB x 1)) (k0_pay14 (colB x 4)))
    (k0_pay31 k0_pay3 (k0_pay10 ioB) (k0_pay13 (colB x 2)) (k0_pay15 (colB x 5)))
    (k0_pay32 k0_pay3 (k0_pay13 (colB x 2)) (k0_pay15 (colB x 5))
      (k0_pay23 (k0_pay17 (k0_pay6 k0_pay2) (colB x 0) (colB x 3)) (k0_pay18 (colB x 0)))
      (k0_pay24 (k0_pay5 k0_pay4 7#32 0#32) (k0_pay12 (colB x 1)) (k0_pay14 (colB x 4)))
      (k0_pay28 (k0_pay5 k0_pay4 7#32 0#32) (k0_pay12 (colB x 1)) (k0_pay14 (colB x 4))))

abbrev Bf (c : Dev nD) {sp : Space} {S : Shape} {e : EltTy} (M : Memref sig .tc sp S e) : Type := Buf (Elt F) (M.view.loc (c : Thread nD τ))
abbrev ptB (c : Dev nD) {sp : Space} {S : Shape} {e : EltTy} (M : Memref sig .tc sp S e) (f : Bf (F := F) c M) : sProp 𝕄 :=
  M.view.loc (c : Thread nD τ) ↦{fullShare} f

theorem read_stored {κ : Kind} {sp : Space} {s : Shape} {e : EltTy} {Val : EltTy → Type} (v : View sig κ sp s e) (f : v.ty.Contents Val) {off : Fin s.rank → ℕ} (h : ∀ a, off a = 0)
    (inb : ∀ a, off a + s.size a ≤ s.size a) (w : s.Idx → Val e) : v.read Val (v.writes Val f [⟨Rect.unit off s.size inb, w⟩]) = w := by
  funext y
  exact View.read_writes_cons_unit_of_mem v f inb w [] y y rfl fun a => by rw [h a, Nat.zero_add]

set_option maxHeartbeats 2000000 in
theorem body_run (c : Dev nD) (i : grid0.Coords) (M0 : Memref sig .tc .vmem S32x7 .f32) (h0 : M0.IsWhole) (M1 : Memref sig .tc .vmem S32x2744 .i32) (h1 : M1.IsWhole)
    (M2 : Memref sig .tc .vmem S32x2744 .f32) (h2 : M2.IsWhole) (f0 : Bf (F := F) c M0) (f1 : Bf (F := F) c M1) (f2 : Bf (F := F) c M2) (E : Set ℕ) (Q : PUnit → sProp 𝕄) :
    iprop(ptB c M0 f0 ∗ ptB c M1 f1 ∗ ptB c M2 f2
        ∗ (iprop(ptB c M0 f0 ∗ (∃ g1 : Bf (F := F) c M1, ⌜M1.view.read (Elt F) g1 = idxB (M0.view.read (Elt F) f0)⌝ ∗ ptB c M1 g1)
            ∗ (∃ g2 : Bf (F := F) c M2, ⌜M2.view.read (Elt F) g2 = wB (M0.view.read (Elt F) f0)⌝ ∗ ptB c M2 g2)) -∗ Q ⟨⟩))
      ⊢ wp frame (wpE (defs₀ (F := F)) 𝒱₀ (c : Thread nD τ) none) E (cc0__idxw_body i M0 h0 M1 h1 M2 h2) Q := by
  iintro ⟨H0, H1, H2, Hk⟩
  sl_exec!
  sl_step
  iapply Hk
  isplitl [H0]; · iexact H0
  isplitl [H1]
  · iexists _
    isplitr; swap; (· iexact H1)
    ipureintro
    delta body_run.sl.H1_1
    refine (read_stored M1.view _ (fun a => by fin_cases a <;> rfl) _ _).trans ?_
    rfl
  · iexists _
    isplitr; swap; (· iexact H2)
    ipureintro
    delta body_run.sl.H2_1
    refine (read_stored M2.view _ (fun a => by fin_cases a <;> rfl) _ _).trans ?_
    rfl

theorem body_owns (c : Dev nD) (i : grid0.Coords) (M0 : Memref sig .tc .vmem S32x7 .f32) (h0 : M0.IsWhole) (M1 : Memref sig .tc .vmem S32x2744 .i32) (h1 : M1.IsWhole)
    (M2 : Memref sig .tc .vmem S32x2744 .f32) (h2 : M2.IsWhole) (X0 : S32x7.Idx → F .f32) (X1 : S32x2744.Idx → BitVec 32) (X2 : S32x2744.Idx → F .f32) (E : Set ℕ) (Q : PUnit → sProp 𝕄) :
    iprop(owns (c : Thread nD τ) M0 fullShare (X0 : S32x7.Idx → Elt F .f32) ∗ owns (c : Thread nD τ) M1 fullShare (X1 : S32x2744.Idx → Elt F .i32)
        ∗ owns (c : Thread nD τ) M2 fullShare (X2 : S32x2744.Idx → Elt F .f32)
        ∗ (iprop(owns (c : Thread nD τ) M0 fullShare (X0 : S32x7.Idx → Elt F .f32) ∗ owns (c : Thread nD τ) M1 fullShare (idxB X0 : S32x2744.Idx → Elt F .i32)
            ∗ owns (c : Thread nD τ) M2 fullShare (wB X0 : S32x2744.Idx → Elt F .f32)) -∗ Q ⟨⟩))
      ⊢ wp frame (wpE (defs₀ (F := F)) 𝒱₀ (c : Thread nD τ) none) E (cc0__idxw_body i M0 h0 M1 h1 M2 h2) Q := by
  unfold owns
  rw [h0.set_eq_univ, h1.set_eq_univ, h2.set_eq_univ]
  iintro ⟨⟨%f0, %e0, H0⟩, ⟨%f1, -, H1⟩, ⟨%f2, -, H2⟩, Hk⟩
  subst e0
  iapply (body_run c i M0 h0 M1 h1 M2 h2 f0 f1 f2 E Q)
  isplitl [H0]; · iexact H0
  isplitl [H1]; · iexact H1
  isplitl [H2]; · iexact H2
  iintro ⟨H0, H1, H2⟩
  iapply Hk
  isplitl [H0]
  · iexists f0
    isplitr; · ipureintro; rfl
    iexact H0
  isplitl [H1]
  · iexact H1
  · iexact H2

end Cert.Proof

end
-- ==== Proof.Region.lean ====
module

public import proofs.«01_k».proof.Proof.Blk
public import proofs.«01_k».proof.Proof.Gen.KernelIdeal.Launch
public import Idealize.ShloMosaic.Lib.Pipeline.Regions
public import Idealize.ShloMosaic.Lib.Pipeline.ValueKit.Geometry

@[expose] public section

noncomputable section

namespace Cert.Proof

open Cert.KernelIdeal Cert.KernelIdeal.Gen
open Idealize.ShloMosaic
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

abbrev EP : Emb UP (MT nD τ sig (HIx 1) (Elt F) ℕ UU ℕ) := (Emb.inl : Emb UP (UP × Counters)).trans embR

/-- The one choice of the absent tables. -/
abbrev adm0 : (p : Fin 1) → (pcfgs (F := F) p).Adm := fun p => (cfgs p).toPCfg_adm

/-! ## The two tables the TensorCore's kernel leaves -/

/-- Block `n` of thirty-two regions. -/
def blkA (x : S256x7.Idx → F .f32) (n : ℕ) : S32x7.Idx → F .f32 := fun z =>
  x (Fin.cons ⟨(32 * n + (z 0).val) % 256, Nat.mod_lt _ (by decide)⟩ (Fin.cons (z 1) finZeroElim))

def locA (y : S256x2744.Idx) : S32x2744.Idx := Fin.cons ⟨(y 0).val % 32, Nat.mod_lt _ (by decide)⟩ (Fin.cons (y 1) finZeroElim)

/-- The rows of the table the whole array of regions names. -/
def idxA (x : S256x7.Idx → F .f32) : S256x2744.Idx → BitVec 32 := fun y => idxB (blkA x ((y 0).val / 32)) (locA y)

/-- Their weights. -/
def wA (x : S256x7.Idx → F .f32) : S256x2744.Idx → F .f32 := fun y => wB (blkA x ((y 0).val / 32)) (locA y)

/-! ## The proof data -/

abbrev xLoc (d : Dev nD) := (SparseCore.T d : Thread nD τ).loc main_arg1
abbrev i0Loc (d : Dev nD) := (SparseCore.T d : Thread nD τ).loc main_v2_0
abbrev w0Loc (d : Dev nD) := (SparseCore.T d : Thread nD τ).loc main_v2_1

section
variable (x : Dev nD → S256x7.Idx → F .f32) (fi : Dev nD → S256x2744.Idx → BitVec 32) (fw : Dev nD → S256x2744.Idx → F .f32)

def dat (c : Dev nD) : Dat τ (Elt F) (HIx 1) ℕ UU ℕ cfg0 c where
  A w := match w with
    | ⟨0, _⟩ => x c
    | ⟨1, _⟩ => fi c
    | ⟨2, _⟩ => fw c
  after w t := match w with
    | ⟨0, _⟩ => blkA (x c) t.val
    | ⟨1, _⟩ => idxB (blkA (x c) t.val)
    | ⟨2, _⟩ => wB (blkA (x c) t.val)
  Φ _ := Pipeline.scopedRest spec0 c
  q _ := fullShare
  owed _ := (K (F := F)).Otc c 0
  recorded _ := {p | (K (F := F)).lev (SparseCore.T c, p.1) p.2 ≤ 0}

theorem index_0 : ∀ t : Fin cfg0.N, win0_0.index t = ![t.val, 0] := by decide
theorem index_1 : ∀ t : Fin cfg0.N, win0_1.index t = ![t.val, 0] := by decide
theorem index_2 : ∀ t : Fin cfg0.N, win0_2.index t = ![t.val, 0] := by decide

theorem blkA_div (x : S256x7.Idx → F .f32) {n t : ℕ} (h : n = t) : blkA x n = blkA x t := by rw [h]

/-- The tables after the region. -/
theorem arr_1 (c : Dev nD) : (dat x fi fw c).arrAt 1 cfg0.N = idxA (x c) := by
  refine (dat x fi fw c).arrAt_eq_of_covers 1 _ (by decide +kernel) fun t hf y => ?_
  blk_simp
  show idxB (blkA (x c) t.val) y = idxB (blkA (x c) _) (locA _)
  have hy : (y 0).val < 32 := (y 0).isLt
  have e0 : (((win0_1.blk t).view.emb y) 0).val = t.val * 32 + (y 0).val := by blk_simp [index_1]
  have e1 : (((win0_1.blk t).view.emb y) 1).val = (y 1).val := by blk_simp [index_1]
  rw [blkA_div (x c) (show (((win0_1.blk t).view.emb y) 0).val / 32 = t.val by omega)]
  refine congrArg _ (funext fun a => Fin.ext ?_)
  fin_cases a
  · show (y 0).val = (((win0_1.blk t).view.emb y) 0).val % 32
    omega
  · exact e1.symm

theorem arr_2 (c : Dev nD) : (dat x fi fw c).arrAt 2 cfg0.N = wA (x c) := by
  refine (dat x fi fw c).arrAt_eq_of_covers 2 _ (by decide +kernel) fun t hf y => ?_
  blk_simp
  show wB (blkA (x c) t.val) y = wB (blkA (x c) _) (locA _)
  have hy : (y 0).val < 32 := (y 0).isLt
  have e0 : (((win0_2.blk t).view.emb y) 0).val = t.val * 32 + (y 0).val := by blk_simp [index_2]
  have e1 : (((win0_2.blk t).view.emb y) 1).val = (y 1).val := by blk_simp [index_2]
  rw [blkA_div (x c) (show (((win0_2.blk t).view.emb y) 0).val / 32 = t.val by omega)]
  refine congrArg _ (funext fun a => Fin.ext ?_)
  fin_cases a
  · show (y 0).val = (((win0_2.blk t).view.emb y) 0).val % 32
    omega
  · exact e1.symm

theorem before_in (c : Dev nD) (t : Fin cfg0.N) (d : (cfg0.win 0).block.Idx → Elt F (cfg0.win 0).elt) : (dat x fi fw c).before 0 t d = blkA (x c) t.val := by
  rw [(dat x fi fw c).before_fetched 0 t (fetch0_0 t) d]
  funext y
  have hm : (cfg0.win 0).moved (cfg0.grid.coords t) y = true :=
    ((cfg0.win 0).moved_iff _ y).mpr fun a => by have := (y a).isLt; exact this
  unfold Dat.fetched Pipeline.Window.fill
  rw [dif_pos hm]
  blk_simp
  refine congrArg (x c) (funext fun a => Fin.ext ?_)
  have ht : t.val < 8 := t.isLt
  have hy : (y 0).val < 32 := (y 0).isLt
  fin_cases a
  · blk_simp [index_0]
    show t.val * 32 + (y 0).val = (32 * t.val + (y 0).val) % 256
    omega
  · blk_simp [index_0]
    rfl

theorem body_obligation (c : Dev nD) : BodyObligation (dat x fi fw c) (defs₀ (F := F)) 𝒱₀ none Set.univ := fun t => by
  rw [bigSep_W0, bigSep_W0]
  rw [show (dat x fi fw c).Φ t.castSucc = (dat x fi fw c).Φ t.succ from rfl,
    show (dat x fi fw c).owesAt none t.succ = (dat x fi fw c).owesAt none t.castSucc from rfl]
  iintro ⟨HΦ, HO, ⟨%d0, H0⟩, ⟨%d1, H1⟩, ⟨%d2, H2⟩⟩
  rw [before_in]
  iapply (body_owns c (grid0.coords t) ((cfg0.win 0).stage (cfg0.slots t 0)) (stage_whole0 0 _) ((cfg0.win 1).stage (cfg0.slots t 1)) (stage_whole0 1 _)
    ((cfg0.win 2).stage (cfg0.slots t 2)) (stage_whole0 2 _) (blkA (x c) t.val) _ _ Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

/-! ## The region -/

/-- What the core owes while the region runs: the start signals of the SparseCore call to come, its own waits so far at the bottom level. -/
abbrev owesBot (c : Dev nD) : sProp 𝕄 :=
  iprop(∃ W, ⌜∀ p ∈ W, (K (F := F)).lev (SparseCore.T c, p.1) p.2 ≤ 0⌝ ∗ owes (c : Thread nD τ) ((K (F := F)).Otc c 0) W)

theorem otc_none (c : Dev nD) (g : GSem nD τ sig) : (K (F := F)).Otc c 0 g none = 0 := by
  rw [SparseCore.Cfg.Otc_zero]
  unfold SparseCore.Cfg.OtcAt
  rw [Finset.sum_apply, Finsupp.finset_sum_apply]
  refine Finset.sum_eq_zero fun q _ => ?_
  rw [Finset.sum_apply, Finsupp.finset_sum_apply]
  refine Finset.sum_eq_zero fun i _ => ?_
  rw [tallyAt_apply, if_neg fun h => nomatch h.2]

def pdats : (p : Fin 1) → (c : Dev nD) → Dat τ (Elt F) (HIx 1) ℕ UU ℕ (Pipeline.pin (pcfgs (F := F)) adm0 p) c
  | ⟨0, _⟩ => fun c => dat x fi fw c

theorem eq_entails {A B : sProp 𝕄} (h : A = B) : A ⊢ B := by
  subst h; exact .rfl

theorem owesAt_eq (c : Dev nD) (t : Fin (cfg0.N + 1)) : (dat x fi fw c).owesAt none t ⊢ owesBot (F := F) c := by
  unfold Pipeline.Dat.owesAt Pipeline.owesWithin
  iintro ⟨%W, %hW, HO⟩
  iexists W
  isplitr
  · ipureintro
    intro p hp
    rcases hW hp with h | ⟨w, s, rfl⟩
    · exact h
    · exact le_rfl
  · iexact HO

theorem owesAt_of (c : Dev nD) (t : Fin (cfg0.N + 1)) : owesBot (F := F) c ⊢ (dat x fi fw c).owesAt none t := by
  unfold Pipeline.Dat.owesAt Pipeline.owesWithin
  iintro ⟨%W, %hW, HO⟩
  iexists W
  isplitr
  · ipureintro
    intro p hp
    exact Or.inl (hW p hp)
  · iexact HO

theorem arrays_eq (c : Dev nD) (G : (w : Fin cfg0.W) → Buf (Elt F) ((cfg0.win w).arr.view.loc (c.tc : Thread nD τ))) :
    ((dat x fi fw c).arrays G : sProp 𝕄) = iprop((xLoc c ↦{fullShare} G 0) ∗ (i0Loc c ↦{fullShare} G 1) ∗ (w0Loc c ↦{fullShare} G 2)) := by
  unfold Pipeline.Dat.arrays
  rw [bigSep_W0, (arr_whole0 0).set_eq_univ, (arr_whole0 1).set_eq_univ, (arr_whole0 2).set_eq_univ]
  rfl

theorem exit_to (c : Dev nD) : (iprop((dat x fi fw c).arrays ((dat x fi fw c).arrAt · cfg0.N) ∗ (dat x fi fw c).owesAt none (Fin.last cfg0.N) ∗ BI.emp ∗ BI.emp) : sProp 𝕄)
    ⊢ |={Set.univ}=> iprop((xLoc c ↦{fullShare} x c) ∗ (i0Loc c ↦{fullShare} idxA (x c)) ∗ (w0Loc c ↦{fullShare} wA (x c)) ∗ owesBot (F := F) c) := by
  rw [arrays_eq, arr_1, arr_2, show (dat x fi fw c).arrAt 0 cfg0.N = x c from (dat x fi fw c).arrAt_in 0 rfl _]
  iintro ⟨⟨Hx, Hi, Hw⟩, HO, -, -⟩
  imodintro
  isplitl [Hx]; · iexact Hx
  isplitl [Hi]; · iexact Hi
  isplitl [Hw]; · iexact Hw
  iapply (owesAt_eq x fi fw c (Fin.last cfg0.N)); iexact HO

set_option backward.isDefEq.respectTransparency.types false in
def reg : Pipeline.RegionSeg (pcfgs (F := F)) adm0 (pdats x fi fw) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation x fi fw c).loose
  hwaits c := Pipeline.cellsWaits_intro _ _ _ 0 c fun w s t => (K (F := F)).mayWait_none _ (otc_none c)
  pre c := iprop((xLoc c ↦{fullShare} x c) ∗ (i0Loc c ↦{fullShare} fi c) ∗ (w0Loc c ↦{fullShare} fw c) ∗ owesBot c)
  post c := iprop((xLoc c ↦{fullShare} x c) ∗ (i0Loc c ↦{fullShare} idxA (x c)) ∗ (w0Loc c ↦{fullShare} wA (x c)) ∗ owesBot c)
  X _ := BI.emp
  Y _ := BI.emp
  Z _ := BI.emp
  hentry c := by
    rw [Pipeline.ownSems0_none]
    iintro ⟨⟨Hx, Hi, Hw, HO⟩, -, -⟩
    imodintro
    isplitl [Hx Hi Hw]
    · iapply (eq_entails (arrays_eq x fi fw c _).symm)
      isplitl [Hx]; · iexact Hx
      isplitl [Hi]; · iexact Hi
      iexact Hw
    isplitr
    · unfold Pipeline.prefHeld
      rw [show (Finset.univ : Finset (Fin 0)) = ∅ from rfl, BI.bigSep_empty]
      iempintro
    isplitl [HO]
    · iapply (owesAt_of x fi fw c 0); iexact HO
    isplitr <;> iempintro
  hin c := by
    rw [show (pdats x fi fw 0 c).Φ 0 = Pipeline.scopedRest spec0 c from rfl]
    iintro ⟨-, -, Hr⟩; iexact Hr
  hout c := by
    rw [Pipeline.ownSems0_none, show (pdats x fi fw 0 c).Φ (Fin.last _) = Pipeline.scopedRest spec0 c from rfl]
    iintro Hr
    isplitr; · iempintro
    isplitr; · iempintro
    iexact Hr
  hexit c := exit_to x fi fw c

theorem reg_pre (c : Dev nD) : (reg x fi fw).pre c = iprop((xLoc c ↦{fullShare} x c) ∗ (i0Loc c ↦{fullShare} fi c) ∗ (w0Loc c ↦{fullShare} fw c) ∗ owesBot (F := F) c) := rfl

theorem reg_post (c : Dev nD) : (reg x fi fw).post c
    = iprop((xLoc c ↦{fullShare} x c) ∗ (i0Loc c ↦{fullShare} idxA (x c)) ∗ (w0Loc c ↦{fullShare} wA (x c)) ∗ owesBot (F := F) c) := rfl

instance : (EP (F := F)).LandsIn (upEmb : UEmb _ 𝕄) := by
  unfold EP; infer_instance

/-- The TensorCore's kernel run in place: from the array of regions to the two tables. -/
theorem region_wp [∀ e, Nonempty (Elt F e)] (c : Dev nD) :
    iprop(boundary (c : Thread nD τ) ∗ ((xLoc c ↦{fullShare} x c) ∗ (i0Loc c ↦{fullShare} fi c) ∗ (w0Loc c ↦{fullShare} fw c) ∗ owesBot (F := F) c)
        ∗ levAts (K (F := F)).L (K (F := F)).lev ∗ Pipeline.cellsGhost (Pipeline.pin (pcfgs (F := F)) adm0) EP 0 c
        ∗ Pipeline.toksInit (Pipeline.pin (pcfgs (F := F)) adm0) EP 0 c)
      ⊢ wp frame (wpE ((K (F := F)).defs D) 𝒱 (SparseCore.T c : Thread nD τ) none) Set.univ
          (Prog.lift (.customCall (SparseCore.inner (Pipeline.entry 0)) ()))
          fun _ => iprop(boundary (c : Thread nD τ) ∗ (xLoc c ↦{fullShare} x c) ∗ (i0Loc c ↦{fullShare} idxA (x c)) ∗ (w0Loc c ↦{fullShare} wA (x c))
            ∗ owesBot (F := F) c) := by
  have hl := (K (F := F)).wp_liftProg (D (F := F)) 𝒱 (SparseCore.T c : Thread nD τ) Set.univ none
    ((Prog.op (.customCall (Pipeline.entry 0) ()) fun _ => .ret PUnit.unit : Prog (TpuEff nD τ sig (Elt F) (ΛP (F := F)) .tc) PUnit)) (fun _ => iprop(boundary (c : Thread nD τ) ∗ (xLoc c ↦{fullShare} x c) ∗ (i0Loc c ↦{fullShare} idxA (x c)) ∗ (w0Loc c ↦{fullShare} wA (x c))
            ∗ owesBot (F := F) c))
  have h := Pipeline.RegionSeg.wp (pcfgs (F := F)) adm0 (pdats x fi fw) none cellOf_inj (EP (F := F)) defs₀ 𝒱₀ (K (F := F)).L (K (F := F)).lev (reg x fi fw) c none
    (fun u hu => nomatch hu) (fun _ => (Prog.ret PUnit.unit : Prog (TpuEff nD τ sig (Elt F) (ΛP (F := F)) .tc) PUnit)) (fun _ => iprop(boundary (c : Thread nD τ) ∗ (xLoc c ↦{fullShare} x c) ∗ (i0Loc c ↦{fullShare} idxA (x c)) ∗ (w0Loc c ↦{fullShare} wA (x c))
            ∗ owesBot (F := F) c))
  rw [reg_pre, reg_post] at h
  iintro ⟨HB, Hpre, Hl, Hc, Ht⟩
  iapply hl
  iapply h
  isplitr
  · iintro ⟨HB, Hp⟩
    rw [wp_ret]
    imodintro
    isplitl [HB]; · iexact HB
    iexact Hp
  isplitl [HB]; · iexact HB
  isplitl [Hpre]; · iexact Hpre
  isplitl [Hl]; · iexact Hl
  isplitl [Hc]; · iexact Hc
  iexact Ht

end

end Cert.Proof

end
-- ==== Proof.Ints.lean ====
module

public import proofs.«01_k».proof.Proof.Blk

@[expose] public section

noncomputable section

namespace Cert.Proof

open Cert.KernelIdeal Cert.KernelIdeal.Gen
open Idealize.ShloMosaic

variable {F : FTy → Type} [FloatOps F]

/-! ## One entry of the two tables, in scalars -/

/-- A corner of a region, in units of the whole grid. -/
def unitS (v : F .f32) : F .f32 := FloatOps.mulf v (FloatOps.ofBits .f32 0x3D000000#32)

/-- The coordinate of grid point `i` between the corners `lo` and `hi`. -/
def crdS (lo hi : F .f32) (i : BitVec 32) : F .f32 :=
  FloatOps.addf (FloatOps.mulf (unitS lo) (FloatOps.ofBits .f32 0x41F80000#32))
    (FloatOps.mulf (FloatOps.sitofp .f32 i)
      (FloatOps.divf (FloatOps.mulf (FloatOps.subf (unitS hi) (unitS lo)) (FloatOps.ofBits .f32 0x41F80000#32))
        (FloatOps.ofBits .f32 0x40C00000#32)))

/-- The voxel on side `k` of a coordinate, kept on the grid. -/
def voxS (q : F .f32) (k : BitVec 32) : BitVec 32 :=
  IntOp.minsi 31#32 (IntOp.maxsi 0#32 (IntOp.addi (FloatOps.fptosi 32 (FloatOps.floor q)) k))

/-- Its weight. -/
def wgtS (q : F .f32) (k : BitVec 32) : F .f32 :=
  Scalar.select (IntOp.cmpi .eq k 1#32) (FloatOps.subf q (FloatOps.floor q))
    (FloatOps.subf (FloatOps.ofBits .f32 0x3F800000#32) (FloatOps.subf q (FloatOps.floor q)))

/-- Whether a coordinate lies on the grid. -/
def okS (q : F .f32) : BitVec 1 :=
  IntOp.andi (FloatOps.cmpf .oge q (FloatOps.ofBits .f32 0x00000000#32))
    (FloatOps.cmpf .ole q (FloatOps.ofBits .f32 0x41F80000#32))

/-- The row of the table that holds voxel `(y, x, z)` of sample `b`. -/
def flatS (b y x z : BitVec 32) : BitVec 32 :=
  IntOp.addi (IntOp.muli (IntOp.addi (IntOp.muli (IntOp.addi (IntOp.muli b 32#32) y) 32#32) x) 32#32) z

/-- Column `c`'s grid point and corner of the cube. -/
def gyS (c : ℕ) : BitVec 32 := BitVec.ofNat 32 (c / 8 / 49)
def gxS (c : ℕ) : BitVec 32 := BitVec.ofNat 32 (c / 8 / 7 % 7)
def gzS (c : ℕ) : BitVec 32 := BitVec.ofNat 32 (c / 8 % 7)
def kyS (c : ℕ) : BitVec 32 := BitVec.ofNat 32 (c / 4 % 2)
def kxS (c : ℕ) : BitVec 32 := BitVec.ofNat 32 (c / 2 % 2)
def kzS (c : ℕ) : BitVec 32 := BitVec.ofNat 32 (c % 2)

/-- The three coordinates of column `c` in a region `r`. -/
def qy (r : Fin 7 → F .f32) (c : ℕ) : F .f32 := crdS (r 0) (r 3) (gyS c)
def qx (r : Fin 7 → F .f32) (c : ℕ) : F .f32 := crdS (r 1) (r 4) (gxS c)
def qz (r : Fin 7 → F .f32) (c : ℕ) : F .f32 := crdS (r 2) (r 5) (gzS c)

def idxS (r : Fin 7 → F .f32) (c : ℕ) : BitVec 32 :=
  flatS (FloatOps.fptosi 32 (r 6)) (voxS (qy r c) (kyS c)) (voxS (qx r c) (kxS c)) (voxS (qz r c) (kzS c))

def wS (r : Fin 7 → F .f32) (c : ℕ) : F .f32 :=
  Scalar.select (IntOp.andi (IntOp.andi (okS (qy r c)) (okS (qx r c))) (okS (qz r c)))
    (FloatOps.mulf (FloatOps.mulf (wgtS (qy r c) (kyS c)) (wgtS (qx r c) (kxS c))) (wgtS (qz r c) (kzS c)))
    (FloatOps.ofBits .f32 0x00000000#32)

/-! ## The body's integer vectors -/

abbrev atc (c : Fin 2744) : S32x2744.Idx := Fin.cons (0 : Fin 32) (Fin.cons c finZeroElim)

set_option maxRecDepth 16384 in
theorem gz_val (c : Fin 2744) : k0_pay3 (atc c) = gzS c.val := by revert c; decide +kernel
set_option maxRecDepth 16384 in
theorem gx_val (c : Fin 2744) : k0_pay5 k0_pay4 7#32 0#32 (atc c) = gxS c.val := by revert c; decide +kernel
set_option maxRecDepth 16384 in
theorem gy_val (c : Fin 2744) : k0_pay6 k0_pay2 (atc c) = gyS c.val := by revert c; decide +kernel
set_option maxRecDepth 16384 in
theorem ky_val (c : Fin 2744) : k0_pay7 ioB (atc c) = kyS c.val := by revert c; decide +kernel
set_option maxRecDepth 16384 in
theorem kx_val (c : Fin 2744) : k0_pay9 (k0_pay8 ioB) (atc c) = kxS c.val := by revert c; decide +kernel
set_option maxRecDepth 16384 in
theorem kz_val (c : Fin 2744) : k0_pay10 ioB (atc c) = kzS c.val := by revert c; decide +kernel

theorem gz_at (y : S32x2744.Idx) : k0_pay3 y = gzS (y 1).val := gz_val (y 1)
theorem gx_at (y : S32x2744.Idx) : k0_pay5 k0_pay4 7#32 0#32 y = gxS (y 1).val := gx_val (y 1)
theorem gy_at (y : S32x2744.Idx) : k0_pay6 k0_pay2 y = gyS (y 1).val := gy_val (y 1)
theorem ky_at (y : S32x2744.Idx) : k0_pay7 ioB y = kyS (y 1).val := ky_val (y 1)
theorem kx_at (y : S32x2744.Idx) : k0_pay9 (k0_pay8 ioB) y = kxS (y 1).val := kx_val (y 1)
theorem kz_at (y : S32x2744.Idx) : k0_pay10 ioB y = kzS (y 1).val := kz_val (y 1)

end Cert.Proof

end
-- ==== Proof.Row.lean ====
module

public import proofs.«01_k».proof.Proof.Region
public import proofs.«01_k».proof.Proof.Ints
public import Idealize.ShloMosaic.Lib.ReduceAll
public import Idealize.ShloMosaic.Lib.StableHlo.Predicate

@[expose] public section

noncomputable section

namespace Cert.Proof

open Cert.KernelIdeal Cert.KernelIdeal.Gen
open Idealize.ShloMosaic

variable {F : FTy → Type} [FloatOps F]

/-! ## A block's entries -/

/-- Region `p` of a block. -/
def rowB (x : S32x7.Idx → F .f32) (p : Fin 32) : Fin 7 → F .f32 := fun k => x (Fin.cons p (Fin.cons k finZeroElim))

/-- Entry `p` of a column of a block. -/
abbrev atp (p : Fin 32) : S32x1.Idx := Fin.cons p (Fin.cons (0 : Fin 1) finZeroElim)

theorem colB_at (x : S32x7.Idx → F .f32) (k : Fin 7) (p : Fin 32) : colB x k (atp p) = rowB x p k := by
  unfold colB rowB
  congr 1
  funext a
  apply Fin.ext
  rw [Rect.emb_apply]
  fin_cases a
  · show 0 + 1 * p.val = p.val; omega
  · show k.val + 1 * 0 = k.val; omega

/-- An entry's region. -/
def pB (y : S32x2744.Idx) : Fin 32 := y 0
def pA (y : S256x2744.Idx) : Fin 256 := y 0

theorem bc_at {α : Type} (v : S32x1.Idx → α) (y : S32x2744.Idx) :
    broadcastTo S32x2744 v broadcasts_S32x1_S32x2744 y = v (atp (pB y)) := by
  show v _ = v _
  congr 1
  funext a
  fin_cases a <;> rfl

theorem qy_at (x : S32x7.Idx → F .f32) (y : S32x2744.Idx) :
    k0_pay19 (k0_pay17 (k0_pay6 k0_pay2) (colB x 0) (colB x 3)) (k0_pay18 (colB x 0)) y = qy (rowB x (pB y)) (y 1).val := by
  unfold k0_pay19 k0_pay17 k0_pay18
  show FloatOps.addf (broadcastTo S32x2744 _ broadcasts_S32x1_S32x2744 y)
    (FloatOps.mulf (FloatOps.sitofp (F := F) .f32 (k0_pay6 k0_pay2 y)) (broadcastTo S32x2744 _ broadcasts_S32x1_S32x2744 y)) = _
  rw [bc_at, bc_at, gy_at]
  show crdS (colB x 0 (atp (pB y))) (colB x 3 (atp (pB y))) _ = _
  rw [colB_at, colB_at]; rfl

theorem qx_at (x : S32x7.Idx → F .f32) (y : S32x2744.Idx) :
    k0_pay24 (k0_pay5 k0_pay4 7#32 0#32) (k0_pay12 (colB x 1)) (k0_pay14 (colB x 4)) y = qx (rowB x (pB y)) (y 1).val := by
  show FloatOps.addf (broadcastTo S32x2744 _ broadcasts_S32x1_S32x2744 y)
    (FloatOps.mulf (FloatOps.sitofp (F := F) .f32 (k0_pay5 k0_pay4 7#32 0#32 y)) (broadcastTo S32x2744 _ broadcasts_S32x1_S32x2744 y)) = _
  rw [bc_at, bc_at, gx_at]
  show crdS (colB x 1 (atp (pB y))) (colB x 4 (atp (pB y))) _ = _
  rw [colB_at, colB_at]; rfl

theorem qz_at (x : S32x7.Idx → F .f32) (y : S32x2744.Idx) :
    k0_pay29 k0_pay3 (k0_pay13 (colB x 2)) (k0_pay15 (colB x 5)) y = qz (rowB x (pB y)) (y 1).val := by
  show FloatOps.addf (broadcastTo S32x2744 _ broadcasts_S32x1_S32x2744 y)
    (FloatOps.mulf (FloatOps.sitofp (F := F) .f32 (k0_pay3 y)) (broadcastTo S32x2744 _ broadcasts_S32x1_S32x2744 y)) = _
  rw [bc_at, bc_at, gz_at]
  show crdS (colB x 2 (atp (pB y))) (colB x 5 (atp (pB y))) _ = _
  rw [colB_at, colB_at]; rfl

theorem idxB_at (x : S32x7.Idx → F .f32) (y : S32x2744.Idx) : idxB x y = idxS (rowB x (pB y)) (y 1).val := by
  have h : idxB x y = IntOp.addi (IntOp.muli (IntOp.addi (IntOp.muli (IntOp.addi
      (broadcastTo S32x2744 (muli (fptosi 32 (colB x 6)) (broadcast S32x1 32#32)) broadcasts_S32x1_S32x2744 y)
      (voxS (k0_pay19 (k0_pay17 (k0_pay6 k0_pay2) (colB x 0) (colB x 3)) (k0_pay18 (colB x 0)) y) (k0_pay7 ioB y))) 32#32)
      (voxS (k0_pay24 (k0_pay5 k0_pay4 7#32 0#32) (k0_pay12 (colB x 1)) (k0_pay14 (colB x 4)) y) (k0_pay9 (k0_pay8 ioB) y))) 32#32)
      (voxS (k0_pay29 k0_pay3 (k0_pay13 (colB x 2)) (k0_pay15 (colB x 5)) y) (k0_pay10 ioB y)) := rfl
  rw [h, bc_at, qy_at, qx_at, qz_at, ky_at, kx_at, kz_at]
  show flatS (FloatOps.fptosi 32 (colB x 6 (atp (pB y)))) _ _ _ = _
  rw [colB_at]; rfl

theorem wB_at (x : S32x7.Idx → F .f32) (y : S32x2744.Idx) : wB x y = wS (rowB x (pB y)) (y 1).val := by
  show Scalar.select (IntOp.andi (IntOp.andi (okS (k0_pay19 _ _ y)) (okS (k0_pay24 _ _ _ y))) (okS (k0_pay29 _ _ _ y)))
    (FloatOps.mulf (FloatOps.mulf (wgtS (k0_pay19 _ _ y) (k0_pay7 ioB y)) (wgtS (k0_pay24 _ _ _ y) (k0_pay9 (k0_pay8 ioB) y)))
      (wgtS (k0_pay29 _ _ _ y) (k0_pay10 ioB y))) _ = _
  rw [qy_at, qx_at, qz_at, ky_at, kx_at, kz_at]; rfl

/-! ## The whole array's entries -/

/-- Region `n` of the array. -/
def rowA (x : S256x7.Idx → F .f32) (p : Fin 256) : Fin 7 → F .f32 := fun k => x (Fin.cons p (Fin.cons k finZeroElim))

theorem rowB_blkA (x : S256x7.Idx → F .f32) (y : S256x2744.Idx) : rowB (blkA x ((y 0).val / 32)) (pB (locA y)) = rowA x (pA y) := by
  funext k
  unfold rowB rowA blkA
  congr 1
  funext a
  apply Fin.ext
  fin_cases a
  · show (32 * ((y 0).val / 32) + (y 0).val % 32) % 256 = (y 0).val
    have : (y 0).val < 256 := (y 0).isLt
    omega
  · rfl

theorem idxA_at (x : S256x7.Idx → F .f32) (y : S256x2744.Idx) : idxA x y = idxS (rowA x (pA y)) (y 1).val := by
  unfold idxA; rw [idxB_at, rowB_blkA]; rfl

theorem wA_at (x : S256x7.Idx → F .f32) (y : S256x2744.Idx) : wA x y = wS (rowA x (pA y)) (y 1).val := by
  unfold wA; rw [wB_at, rowB_blkA]; rfl

/-! ## The rows named lie in the table -/

theorem voxS_le (q : F .f32) (k : BitVec 32) : (voxS q k).toNat ≤ 31 := by
  unfold voxS
  generalize IntOp.addi (FloatOps.fptosi 32 (FloatOps.floor q)) k = v
  unfold IntOp.minsi IntOp.maxsi
  have h31 : (31#32).toInt = 31 := by decide
  have h0 : (0#32).toInt = 0 := by decide
  split
  · decide
  · rename_i h
    simp only [BitVec.slt, decide_eq_true_eq, h31] at h
    revert h
    split
    · rename_i h'
      simp only [BitVec.slt, decide_eq_true_eq, h0] at h'
      intro _; decide
    · rename_i h'
      simp only [BitVec.slt, decide_eq_true_eq, h0] at h'
      intro h
      have := BitVec.toInt_eq_toNat_cond v
      have hv := v.isLt
      split at this <;> omega

theorem flatS_toNat {b y x z : BitVec 32} (hb : b.toNat < 4) (hy : y.toNat ≤ 31) (hx : x.toNat ≤ 31) (hz : z.toNat ≤ 31) :
    (flatS b y x z).toNat = ((b.toNat * 32 + y.toNat) * 32 + x.toNat) * 32 + z.toNat := by
  unfold flatS IntOp.addi IntOp.muli
  simp only [BitVec.toNat_add, BitVec.toNat_mul, BitVec.toNat_ofNat]
  omega

theorem idxS_toNat (r : Fin 7 → F .f32) (c : ℕ) (hb : (FloatOps.fptosi 32 (r 6) : BitVec 32).toNat < 4) : (idxS r c).toNat < 131072 := by
  unfold idxS
  have hy := voxS_le (qy r c) (kyS c)
  have hx := voxS_le (qx r c) (kxS c)
  have hz := voxS_le (qz r c) (kzS c)
  rw [flatS_toNat hb hy hx hz]
  omega

end Cert.Proof

end
-- ==== Proof.Group.lean ====
module

public import proofs.«01_k».proof.Proof.Base
public import Idealize.ShloMosaic.Lib.PointwiseCore
public import Idealize.ShloMosaic.Lib.WritesUnit

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The weighted sum of eight values, in the kernel's order. -/
def pt8 (ws vs : Fin 8 → F .f32) : F .f32 :=
  FloatOps.addf (FloatOps.addf (FloatOps.addf (FloatOps.mulf (ws 0) (vs 0)) (FloatOps.mulf (ws 1) (vs 1)))
      (FloatOps.addf (FloatOps.mulf (ws 2) (vs 2)) (FloatOps.mulf (ws 3) (vs 3))))
    (FloatOps.addf (FloatOps.addf (FloatOps.mulf (ws 4) (vs 4)) (FloatOps.mulf (ws 5) (vs 5)))
      (FloatOps.addf (FloatOps.mulf (ws 6) (vs 6)) (FloatOps.mulf (ws 7) (vs 7))))

/-- The weighted sum of eight loaded pieces, at a lane. -/
theorem acc_apply (ws : Fin 8 → F .f32) (v : Fin 8 → Vec F S1x16 .f32) (l : S16.Idx) :
    acc ws (v 0) (v 1) (v 2) (v 3) (v 4) (v 5) (v 6) (v 7) l = pt8 ws fun k => v k (ix2 0 (l 0)) := by
  pointwise [acc, term, pt8]

/-- A loaded weight. -/
theorem lane_apply (w : Vec F S1x16 .f32) (n : ℕ) (h : S16.Slices ![n] S1) (hn : n < 16) : lane w n h = w (ix2 0 ⟨n, hn⟩) := by
  pointwise [lane]

theorem lanes_apply (w : Vec F S1x16 .f32) (h : Fin 2) (k : Fin 8) : lanes w h k = w (ix2 0 ⟨8 * h.val + k.val, by omega⟩) := by
  fin_cases h <;> fin_cases k
  · exact lane_apply w 0 slices_S16_o0_S1 _
  · exact lane_apply w 1 slices_S16_o1_S1 _
  · exact lane_apply w 2 slices_S16_o2_S1 _
  · exact lane_apply w 3 slices_S16_o3_S1 _
  · exact lane_apply w 4 slices_S16_o4_S1 _
  · exact lane_apply w 5 slices_S16_o5_S1 _
  · exact lane_apply w 6 slices_S16_o6_S1 _
  · exact lane_apply w 7 slices_S16_o7_S1 _
  · exact lane_apply w 8 slices_S16_o8_S1 _
  · exact lane_apply w 9 slices_S16_o9_S1 _
  · exact lane_apply w 10 slices_S16_o10_S1 _
  · exact lane_apply w 11 slices_S16_o11_S1 _
  · exact lane_apply w 12 slices_S16_o12_S1 _
  · exact lane_apply w 13 slices_S16_o13_S1 _
  · exact lane_apply w 14 slices_S16_o14_S1 _
  · exact lane_apply w 15 slices_S16_o15_S1 _

/-- What the staged output holds below `B`. -/
def Good (out : Memref sig .scVector .vmem S7168 .f32) {thr : Thread nD τ} (fo : out.view.ty.Contents (Elt F)) (Tgt : ℕ → F .f32) (B : ℕ) : Prop :=
  ∀ y : S7168.Idx, (y 0).val < B → out.view.read (Elt F) fo y = Tgt (y 0).val

/-- A buffer of 112 rows read by numbers. -/
def RowsEq (rows : Memref sig .scVector .vmem S112x128 .f32) (fr : rows.view.ty.Contents (Elt F)) (R : ℕ → ℕ → F .f32) : Prop :=
  ∀ y : S112x128.Idx, rows.view.read (Elt F) fr y = R (y 0).val (y 1).val

variable (d : Dev nD) (i : grid1.Coords)

/-- One group: eight rows' sixteen channels weighted and stored extend what the staged output holds by sixteen. -/
theorem wp_group (O : Offs) {rows : Memref sig .scVector .vmem S112x128 .f32} {out : Memref sig .scVector .vmem S7168 .f32}
    {fr : Buf (Elt F) (rows.view.loc (tV d i))} {fo : Buf (Elt F) (out.view.loc (tV d i))} (ws : Fin 8 → F .f32) (h : Fin 2) (g : Fin 8)
    (rest : TileProg F i Unit) (Q : Unit → sProp 𝕄) (Tgt : ℕ → F .f32) (R : ℕ → ℕ → F .f32) (B : ℕ)
    (hR : RowsEq rows fr R) (hG : Good out (thr := tV d i) fo Tgt B) (ho : O.o h g 0 = B)
    (hT : ∀ l < 16, Tgt (B + l) = pt8 ws fun k => R (O.r g h k 0) (O.r g h k 1 + l)) :
    iprop((rows.view.loc (tV d i) ↦{fullShare} fr) ∗ (out.view.loc (tV d i) ↦{fullShare} fo)
        ∗ (∀ fo', (rows.view.loc (tV d i) ↦{fullShare} fr) -∗ (out.view.loc (tV d i) ↦{fullShare} fo')
            -∗ ⌜Good out (thr := tV d i) fo' Tgt (B + 16)⌝ -∗ wp frame (wpE (defs₀ (F := F)) 𝒱₀ (tV d i) none) Set.univ rest Q))
      ⊢ (wp frame (wpE (defs₀ (F := F)) 𝒱₀ (tV d i) none) Set.univ (group O rows out ws h g rest) Q : sProp 𝕄) := by
  unfold group
  iintro ⟨Hr, Ho, HK⟩
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Hr; iintro Hr
  iapply (wp_load 𝒱₀ (tV d i) none Set.univ (Finset.subset_univ _)) $$ Ho; iintro Ho
  iapply (wp_store_writes₀ 𝒱₀ (tV d i) none Set.univ (Finset.subset_univ _)) $$ Ho; iintro Ho
  ispecialize HK $$ %_ Hr Ho
  iapply HK
  ipureintro
  intro y hy
  by_cases hlt : (y 0).val < B
  · rw [View.read_writes_cons_miss]
    · exact hG y hlt
    · rw [Rect.mem_set_unit]; intro hm; have := (hm 0).1; simp only [ho] at this; omega
  · have hl : (y 0).val - B < 16 := by omega
    rw [View.read_writes_cons_hit_of_coords _ _ _ _ _ (ix1 (⟨(y 0).val - B, hl⟩ : Fin 16) : S16.Idx) y (by
      intro a; match a with | 0 => (show (y 0).val = O.o h g 0 + 1 * ((y 0).val - B)); rw [ho]; omega)]
    refine Eq.trans ?_ ((hT _ hl).symm.trans (congrArg Tgt (show B + ((y 0).val - B) = (y 0).val by omega)))
    refine (acc_apply ws (fun k => View.readAt (Elt F) rows.view (Rect.unit (s := S112x128) (O.r g h k) S1x16.size (O.hr g h k)).toLoadRect fr) _).trans ?_
    congr 1; funext k
    rw [View.readAt_apply, hR]
    congr 1 <;> simp [Rect.unit, Rect.toLoadRect, LoadRect.idx]

/-- One half: eight groups extend what the staged output holds by 128. -/
theorem wp_half (O : Offs) {rows : Memref sig .scVector .vmem S112x128 .f32} {out : Memref sig .scVector .vmem S7168 .f32}
    {fr : Buf (Elt F) (rows.view.loc (tV d i))} {fo : Buf (Elt F) (out.view.loc (tV d i))} (ws : Fin 8 → F .f32) (h : Fin 2)
    (rest : TileProg F i Unit) (Q : Unit → sProp 𝕄) (Tgt : ℕ → F .f32) (R : ℕ → ℕ → F .f32) (B r : ℕ)
    (hR : RowsEq rows fr R) (hG : Good out (thr := tV d i) fo Tgt B) (ho : ∀ g, O.o h g 0 = B + 16 * g.val)
    (hr : ∀ g k, O.r g h k 0 = r + k.val ∧ O.r g h k 1 = 16 * g.val)
    (hT : ∀ ch < 128, Tgt (B + ch) = pt8 ws fun k => R (r + k.val) ch) :
    iprop((rows.view.loc (tV d i) ↦{fullShare} fr) ∗ (out.view.loc (tV d i) ↦{fullShare} fo)
        ∗ (∀ fo', (rows.view.loc (tV d i) ↦{fullShare} fr) -∗ (out.view.loc (tV d i) ↦{fullShare} fo')
            -∗ ⌜Good out (thr := tV d i) fo' Tgt (B + 128)⌝ -∗ wp frame (wpE (defs₀ (F := F)) 𝒱₀ (tV d i) none) Set.univ rest Q))
      ⊢ (wp frame (wpE (defs₀ (F := F)) 𝒱₀ (tV d i) none) Set.univ (half O rows out ws h rest) Q : sProp 𝕄) := by
  have hT' : ∀ (g : Fin 8), ∀ l < 16, Tgt (B + 16 * g.val + l) = pt8 ws fun k => R (O.r g h k 0) (O.r g h k 1 + l) := by
    intro g l hl
    have := hT (16 * g.val + l) (by omega)
    rw [← Nat.add_assoc] at this
    rw [this]; congr 1; funext k; rw [(hr g k).1, (hr g k).2]
  -- a group, and then the next one from what it left
  have step : ∀ (g : Fin 8) (fo : Buf (Elt F) (out.view.loc (tV d i))) (p : TileProg F i Unit), Good out (thr := tV d i) fo Tgt (B + 16 * g.val) →
      iprop((rows.view.loc (tV d i) ↦{fullShare} fr) ∗ (out.view.loc (tV d i) ↦{fullShare} fo)
        ∗ (∀ fo', (rows.view.loc (tV d i) ↦{fullShare} fr) -∗ (out.view.loc (tV d i) ↦{fullShare} fo')
            -∗ ⌜Good out (thr := tV d i) fo' Tgt (B + 16 * (g.val + 1))⌝ -∗ wp frame (wpE (defs₀ (F := F)) 𝒱₀ (tV d i) none) Set.univ p Q))
      ⊢ (wp frame (wpE (defs₀ (F := F)) 𝒱₀ (tV d i) none) Set.univ (group O rows out ws h g p) Q : sProp 𝕄) :=
    fun g fo p hfo => wp_group d i O ws h g p Q Tgt R (B + 16 * g.val) hR hfo (ho g) (hT' g)
  unfold half
  iintro ⟨Hr, Ho, HK⟩
  iapply (step 0 _ _ hG) $$ [Hr Ho HK]
  isplitl [Hr]; · iexact Hr
  isplitl [Ho]; · iexact Ho
  iintro %fo1 Hr Ho %hG1
  iapply (step 1 _ _ hG1) $$ [Hr Ho HK]
  isplitl [Hr]; · iexact Hr
  isplitl [Ho]; · iexact Ho
  iintro %fo2 Hr Ho %hG2
  iapply (step 2 _ _ hG2) $$ [Hr Ho HK]
  isplitl [Hr]; · iexact Hr
  isplitl [Ho]; · iexact Ho
  iintro %fo3 Hr Ho %hG3
  iapply (step 3 _ _ hG3) $$ [Hr Ho HK]
  isplitl [Hr]; · iexact Hr
  isplitl [Ho]; · iexact Ho
  iintro %fo4 Hr Ho %hG4
  iapply (step 4 _ _ hG4) $$ [Hr Ho HK]
  isplitl [Hr]; · iexact Hr
  isplitl [Ho]; · iexact Ho
  iintro %fo5 Hr Ho %hG5
  iapply (step 5 _ _ hG5) $$ [Hr Ho HK]
  isplitl [Hr]; · iexact Hr
  isplitl [Ho]; · iexact Ho
  iintro %fo6 Hr Ho %hG6
  iapply (step 6 _ _ hG6) $$ [Hr Ho HK]
  isplitl [Hr]; · iexact Hr
  isplitl [Ho]; · iexact Ho
  iintro %fo7 Hr Ho %hG7
  iapply (step 7 _ _ hG7) $$ [Hr Ho HK]
  isplitl [Hr]; · iexact Hr
  isplitl [Ho]; · iexact Ho
  iintro %fo8 Hr Ho %hG8
  iapply HK $$ %_ Hr Ho
  ipureintro; exact hG8

/-- One trip of an inner loop extends what the staged output holds by two points' 256 values. -/
theorem wp_trip (O : Offs) {wv : Memref sig .scVector .vmem S196x112 .f32} {rows : Memref sig .scVector .vmem S112x128 .f32}
    {out : Memref sig .scVector .vmem S7168 .f32} {fw : Buf (Elt F) (wv.view.loc (tV d i))}
    {fr : Buf (Elt F) (rows.view.loc (tV d i))} {fo : Buf (Elt F) (out.view.loc (tV d i))}
    (Tgt : ℕ → F .f32) (W R : ℕ → ℕ → F .f32) (B ci t : ℕ)
    (hW : ∀ y : S196x112.Idx, wv.view.read (Elt F) fw y = W (y 0).val (y 1).val)
    (hR : RowsEq rows fr R) (hG : Good out (thr := tV d i) fo Tgt B) (hw : O.w 0 = ci ∧ O.w 1 = 16 * t)
    (ho : ∀ h g, O.o h g 0 = B + 128 * h.val + 16 * g.val)
    (hr : ∀ g h k, O.r g h k 0 = 16 * t + 8 * h.val + k.val ∧ O.r g h k 1 = 16 * g.val)
    (hT : ∀ h < 2, ∀ ch < 128, Tgt (B + 128 * h + ch)
      = pt8 (fun k => W ci (16 * t + 8 * h + k.val)) fun k => R (16 * t + 8 * h + k.val) ch) :
    iprop((wv.view.loc (tV d i) ↦{fullShare} fw) ∗ (rows.view.loc (tV d i) ↦{fullShare} fr) ∗ (out.view.loc (tV d i) ↦{fullShare} fo))
      ⊢ (wp frame (wpE (defs₀ (F := F)) 𝒱₀ (tV d i) none) Set.univ (trip O wv rows out)
          fun _ => iprop((wv.view.loc (tV d i) ↦{fullShare} fw) ∗ (rows.view.loc (tV d i) ↦{fullShare} fr)
            ∗ ∃ fo', ⌜Good out (thr := tV d i) fo' Tgt (B + 256)⌝ ∗ (out.view.loc (tV d i) ↦{fullShare} fo')) : sProp 𝕄) := by
  have hws : ∀ (h : Fin 2) (k : Fin 8), lanes (View.readAt (Elt F) wv.view (Rect.unit (s := S196x112) O.w S1x16.size O.hw).toLoadRect fw) h k
      = W ci (16 * t + 8 * h.val + k.val) := by
    intro h k
    rw [lanes_apply, View.readAt_apply, hW]
    congr 1
    · show O.w 0 + 1 * 0 = ci; rw [hw.1]; rfl
    · show O.w 1 + 1 * (8 * h.val + k.val) = _; rw [hw.2]; omega
  unfold trip
  iintro ⟨Hw, Hr, Ho⟩
  iapply (wp_load 𝒱₀ (tV d i) none Set.univ (Finset.subset_univ _)) $$ Hw; iintro Hw
  iapply (wp_half d i O _ 0 _ _ Tgt R B (16 * t) hR hG (fun g => (ho 0 g).trans (by simp)) (fun g k => ((hr g 0 k)).imp_left (·.trans (by simp)))
    (fun ch hch => (hT 0 (by omega) ch hch).trans (by congr 1; funext k; exact (hws 0 k).symm))) $$ [Hw Hr Ho]
  isplitl [Hr]; · iexact Hr
  isplitl [Ho]; · iexact Ho
  iintro %fo1 Hr Ho %hG1
  iapply (wp_half d i O _ 1 _ _ Tgt R (B + 128) (16 * t + 8) hR hG1 (fun g => ho 1 g) (fun g k => hr g 1 k)
    (fun ch hch => (hT 1 (by omega) ch hch).trans (by congr 1; funext k; exact (hws 1 k).symm))) $$ [Hw Hr Ho]
  isplitl [Hr]; · iexact Hr
  isplitl [Ho]; · iexact Ho
  iintro %fo2 Hr Ho %hG2
  sl_step
  isplitl [Hw]; · iexact Hw
  isplitl [Hr]; · iexact Hr
  iexists fo2; isplitr; · ipureintro; exact hG2
  iexact Ho

end Cert.Proof
-- ==== Proof.Slot.lean ====
module

public import proofs.«01_k».proof.Proof.Group

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The buffers of a tile -/

abbrev tabV : Memref sig .scVector .hbm S131072x128 .f32 := Memref.whole main_v1_scv
abbrev ixV : Memref sig .scVector .vmem S196x112 .i32 := Memref.whole cc1_scratch0
abbrev wV : Memref sig .scVector .vmem S196x112 .f32 := Memref.whole cc1_scratch1
abbrev outV : Memref sig .scVector .vmem S7168 .f32 := Memref.whole cc1_scratch6
/-- All of the table, as a gather names it. -/
abbrev tabAll : Memref sig .scVector .hbm S131072x128 .f32 :=
  tabV.slice (Rect.unit (s := S131072x128) ![0, 0] S131072x128.size inb_S131072x128_S131072x128_0_0) (fun _ => rfl)
/-- One chunk's row numbers, as a gather names them. -/
abbrev ixRow (off : Fin 2 → ℕ) (h : ∀ a, off a + S1x112.size a ≤ S196x112.size a) : Memref sig .scVector .vmem S112 .i32 :=
  (ixV.slice (Rect.unit (s := S196x112) off S1x112.size h) (fun _ => rfl)).squeeze S112 squeezes_S1x112_S112

/-- The table read by numbers. -/
def tabN (tb : S131072x128.Idx → F .f32) (r c : ℕ) : F .f32 :=
  tb (ix2 (⟨r % 131072, Nat.mod_lt _ (by decide)⟩ : Fin 131072) (⟨c % 128, Nat.mod_lt _ (by decide)⟩ : Fin 128))
/-- A chunk table read by numbers. -/
def chN {α : Type} (f : S196x112.Idx → α) (r c : ℕ) : α :=
  f (ix2 (⟨r % 196, Nat.mod_lt _ (by decide)⟩ : Fin 196) (⟨c % 112, Nat.mod_lt _ (by decide)⟩ : Fin 112))

theorem chN_eq {α : Type} (f : S196x112.Idx → α) (y : S196x112.Idx) : f y = chN f (y 0).val (y 1).val := by
  unfold chN; congr 1; rw [eq_ix2 y]
  congr 1 <;> apply Fin.ext
  · exact (Nat.mod_eq_of_lt (y 0).isLt).symm
  · exact (Nat.mod_eq_of_lt (y 1).isLt).symm

/-- What chunk `ci`'s gather brings: row `r` of the table's rows its list names. -/
def rowsN (tb : S131072x128.Idx → F .f32) (fi : S196x112.Idx → BitVec 32) (ci r ch : ℕ) : F .f32 := tabN tb (chN fi ci r).toNat ch

section
variable (d : Dev nD) (L : grid1.Coords) (tb : S131072x128.Idx → F .f32) (fi : S196x112.Idx → BitVec 32)
variable (rows : Memref sig .scVector .vmem S112x128 .f32) (sem : DmaSem sig) (qt qi : PosShare TreeShare)

/-- The table and the row numbers, at shares. -/
abbrev shares : sProp 𝕄 := iprop((tabV.view.loc (tV d L) ↦{qt} tb) ∗ (ixV.view.loc (tV d L) ↦{qi} fi))

/-- A slot whose rows have landed: those of chunk `ci`. -/
def SlotGot (ci : ℕ) : sProp 𝕄 :=
  iprop((∃ fr, ⌜RowsEq rows fr (rowsN tb fi ci)⌝ ∗ (rows.view.loc (tV d L) ↦{fullShare} fr)) ∗ shares d L tb fi qt qi)

/-- A slot at rest. -/
def SlotIdle : sProp 𝕄 :=
  iprop((∃ fr, rows.view.loc (tV d L) ↦{fullShare} fr) ∗ shares d L tb fi qt qi ∗ semVal (tV d L, SemLoc.dma sem) 0)

/-- A slot whose gather of chunk `ci` is in flight: the flight, and what together with its delivery is the slot landed. -/
def SlotFlight (ci : ℕ) : sProp 𝕄 :=
  iprop(∃ (Dl Rst : sProp 𝕄), Transfers.Flight countersEmb (tV d L) (.dma sem) (default : HIx 1) rows.view.dmaCredit Dl ∗ Rst
    ∗ ⌜iprop(Dl ∗ Rst) ⊢ SlotGot d L tb fi rows qt qi ci⌝)

/-- The slot before chunk `ci`: in flight while there is such a chunk. -/
def SlotAt (ci : ℕ) : sProp 𝕄 := if ci < 196 then SlotFlight d L tb fi rows sem qt qi ci else SlotIdle d L tb fi rows sem qt qi

variable {tb fi rows sem qt qi}

theorem read_ixRow (off : Fin 2 → ℕ) (h : ∀ a, off a + S1x112.size a ≤ S196x112.size a) (x : S112.Idx) :
    (ixRow off h).view.read (Elt F) fi x = chN fi (off 0) (off 1 + (x 0).val) := by
  have e : (ixRow off h).view.read (Elt F) fi x = fi ((Rect.unit (s := S196x112) off S1x112.size h).emb (Shape.reshapeEquiv squeezes_S1x112_S112.numel_eq x)) := rfl
  rw [e, chN_eq fi]
  have hx : Shape.reshapeEquiv (squeezes_S1x112_S112.numel_eq) x = (ix2 0 (x 0) : S1x112.Idx) := by pointwise
  rw [hx]
  congr 1
  show off 1 + 1 * (x 0).val = _
  rw [Nat.one_mul]

theorem read_tabAll (z : S131072x128.Idx) : tabAll.view.read (Elt F) tb z = tabN tb (z 0).val (z 1).val := by
  have e : tabAll.view.read (Elt F) tb z = tb ((Rect.unit (s := S131072x128) ![0, 0] S131072x128.size inb_S131072x128_S131072x128_0_0).emb z) := rfl
  have e' : (Rect.unit (s := S131072x128) ![0, 0] S131072x128.size inb_S131072x128_S131072x128_0_0).emb z
      = (ix2 (⟨(z 0).val % 131072, Nat.mod_lt _ (by decide)⟩ : Fin 131072) (⟨(z 1).val % 128, Nat.mod_lt _ (by decide)⟩ : Fin 128) : S131072x128.Idx) := by
    funext a
    match a with
    | 0 =>
      refine Fin.ext ?_
      show 0 + 1 * (z 0).val = (z 0).val % 131072
      have h : (z 0).val < 131072 := (z 0).isLt
      omega
    | 1 =>
      refine Fin.ext ?_
      show 0 + 1 * (z 1).val = (z 1).val % 128
      have h : (z 1).val < 128 := (z 1).isLt
      omega
  rw [e, e']; rfl

/-- A gather issued: from the slot at rest to the slot in flight. -/
theorem wp_issue (hset : rows.view.set = Finset.univ)
    (hN : ∀ h : S131072x128.Gathers 0 S112x128, ∑ j, (rows.slice (S112x128.rowRect h.axis' j) (S112x128.stride_rowRect h.axis' j)).view.dmaCredit = rows.view.dmaCredit)
    (hfi : ∀ y, (fi y).toNat < 131072) (off : Fin 2 → ℕ) (h : ∀ a, off a + S1x112.size a ≤ S196x112.size a) (ci : ℕ) (hoff : off 0 = ci ∧ off 1 = 0)
    {hp hsrc he hsp hr hn} {α : Type} {k : PUnit → TileProg F L α} {Q : α → sProp 𝕄} :
    iprop(SlotIdle d L tb fi rows sem qt qi ∗ (SlotFlight d L tb fi rows sem qt qi ci -∗ wp frame (wpE (defs₀ (F := F)) 𝒱₀ (tV d L) none) Set.univ (k ⟨⟩) Q))
      ⊢ (wp frame (wpE (defs₀ (F := F)) 𝒱₀ (tV d L) none) Set.univ
        (SparseCore.enqueueIndirectGather hp tabAll rows gathers_S131072x128_S112x128 (ixRow off h) hn sem hsrc he hsp hr >>= k) Q : sProp 𝕄) := by
  have hin : ∀ x, ((ixRow off h).view.read (Elt F) fi x).toNat < S131072x128.size gathers_S131072x128_S112x128.axis := by
    intro x; exact hfi _
  unfold SlotIdle SlotFlight
  iintro ⟨⟨⟨%fr, Hr⟩, ⟨Ht, Hi⟩, Hsem⟩, HK⟩
  ihave Ht' := (pointsTo_split_subset (ℓ := tabV.view.loc (tV d L)) (q := qt) (f := tb) (S := Finset.univ) (Finset.subset_univ tabAll.view.set)).1 $$ Ht
  icases Ht' with ⟨Ht, Htr⟩
  ihave Hi' := (pointsTo_split_subset (ℓ := ixV.view.loc (tV d L)) (q := qi) (f := fi) (S := Finset.univ) (Finset.subset_univ (ixRow off h).view.set)).1 $$ Hi
  icases Hi' with ⟨Hi, Hir⟩
  ihave Hr' := (Entails.of_eq (show ((rows).view.loc (tV d L) ↦{fullShare} fr : sProp 𝕄) = rows.view.loc (tV d L) ↦[rows.view.set]{fullShare} fr by rw [hset])) $$ Hr
  iapply (SparseCore.wp_indirectGatherLocal countersEmb 𝒱₀ (tV d L) none (hg := gathers_S131072x128_S112x128) (default : HIx 1)
      rows.view.dmaCredit (hN _) (by decide) hin) $$ [Ht Hr' Hi Hsem]
  · isplitl [Ht]; · iexact Ht
    isplitl [Hr']; · iexact Hr'
    isplitl [Hi]; · iexact Hi
    iexact Hsem
  iintro Hfl
  iapply HK
  iexists _, iprop((tabV.view.loc (tV d L) ↦[Finset.univ \ tabAll.view.set]{qt} tb) ∗ (ixV.view.loc (tV d L) ↦[Finset.univ \ (ixRow off h).view.set]{qi} fi))
  isplitl [Hfl]; · iexact Hfl
  isplitl [Htr Hir]; · isplitl [Htr]; · iexact Htr
                       iexact Hir
  ipureintro
  unfold SlotGot
  iintro ⟨⟨Hr, Ht, Hi⟩, Htr, Hir⟩
  ihave Ht' := (pointsTo_split_subset (ℓ := tabV.view.loc (tV d L)) (q := qt) (f := tb) (S := Finset.univ) (Finset.subset_univ tabAll.view.set)).2 $$ [Ht Htr]; · isplitl [Ht] <;> iassumption
  ihave Hi' := (pointsTo_split_subset (ℓ := ixV.view.loc (tV d L)) (q := qi) (f := fi) (S := Finset.univ) (Finset.subset_univ (ixRow off h).view.set)).2 $$ [Hi Hir]; · isplitl [Hi] <;> iassumption
  isplitl [Hr]
  · iexists _
    isplitr; swap
    · rw [hset]; iexact Hr
    ipureintro
    intro y
    rw [View.read_write_univ]
    unfold SparseCore.gatherPayload rowsN
    rw [read_tabAll]
    have h0 := Shape.Gathers.idx_axis gathers_S131072x128_S112x128 (SparseCore.rows ((ixRow off h).view.read (Elt F) fi) hn hin) y
    have h1 := Shape.Gathers.idx_of_ne gathers_S131072x128_S112x128 (SparseCore.rows ((ixRow off h).view.read (Elt F) fi) hn hin) y (1 : Fin 2) (by decide)
    refine congrArg₂ (tabN tb) ((congrArg Fin.val h0).trans ?_) h1
    unfold SparseCore.rows
    show ((ixRow off h).view.read (Elt F) fi _).toNat = _
    rw [read_ixRow, hoff.1, hoff.2, Nat.zero_add]
    congr 2
    rw [← Shape.rowMajor_val_one (d := S112.size), Equiv.apply_symm_apply]
    rfl
  isplitl [Ht'] <;> iassumption

/-- While there is a chunk its gather is in flight. -/
theorem slotAt_flight (ci : ℕ) (h : ci < 196) : SlotAt d L tb fi rows sem qt qi ci ⊢ SlotFlight d L tb fi rows sem qt qi ci := by
  unfold SlotAt; rw [if_pos h]

/-- What the tile owes, its waits so far recorded. -/
def Owes (O : CellTallies nD τ sig (HIx 1)) (W : Waits sig (HIx 1)) : sProp 𝕄 :=
  iprop(∃ W', ⌜∀ p ∈ W', p ∈ W ∨ p.2 = none⌝ ∗ owes (tV d L) O W')

variable {O : CellTallies nD τ sig (HIx 1)} {W : Waits sig (HIx 1)}

/-- One more wait at no call is recorded. -/
theorem owes_insert {W' : Waits sig (HIx 1)} (hW : ∀ p ∈ W', p ∈ W ∨ p.2 = none) (sm : SemLoc sig) :
    (owes (tV d L) O (insert (sm, (default : HIx 1)) W') : sProp 𝕄) ⊢ Owes d L O W := by
  unfold Owes
  iintro H
  iexists _; isplitr
  swap; · iexact H
  ipureintro; intro p hp
  rcases Finset.mem_insert.mp hp with hp | hp
  · exact .inr (hp ▸ rfl)
  · exact hW p hp

/-- A gather waited for: the slot landed, its cell back at zero. -/
theorem wp_await (ci : ℕ) {h1 h2} {α : Type} {k : PUnit → TileProg F L α} {Q : α → sProp 𝕄} :
    iprop(SlotFlight d L tb fi rows sem qt qi ci ∗ Owes d L O W ∗ Transfers.MayWaits (tV d L) (default : HIx 1) O
        ∗ (SlotGot d L tb fi rows qt qi ci -∗ semVal (tV d L, SemLoc.dma sem) 0 -∗ Owes d L O W
            -∗ wp frame (wpE (defs₀ (F := F)) 𝒱₀ (tV d L) none) Set.univ (k ⟨⟩) Q))
      ⊢ (wp frame (wpE (defs₀ (F := F)) 𝒱₀ (tV d L) none) Set.univ (SparseCore.waitIndirectGather sem tabAll rows h1 h2 >>= k) Q : sProp 𝕄) := by
  unfold SlotFlight
  iintro ⟨⟨%Dl, %Rst, Hfl, HR, %hD⟩, HO, #Hmw, HK⟩
  ihave HO' := (show Owes d L O W ⊢ iprop(∃ W', ⌜∀ p ∈ W', p ∈ W ∨ p.2 = none⌝ ∗ owes (tV d L) O W') by unfold Owes; exact .refl) $$ HO
  icases HO' with ⟨%W', %hW', HO⟩
  iapply (Transfers.wp_waitLocalO countersEmb 𝒱₀ (tV d L) none (default : HIx 1) (rfl : rows.view.dmaCredit = _)) $$ [Hfl HO]
  · isplitl [Hfl]; · iexact Hfl
    isplitl [HO]; · iexact HO
    iapply (Transfers.MayWaits.elim (SemLoc.dma sem)) $$ Hmw
  iintro ⟨HD, Hs, HO⟩
  iapply HK $$ [HD HR] [Hs] [HO]
  · iapply hD; isplitl [HD] <;> iassumption
  · iexact Hs
  · iapply (owes_insert d L hW' (SemLoc.dma sem)) $$ HO

/-- The slot is at rest again once its cell is at zero. -/
theorem slot_rest (ci : ℕ) : iprop(SlotGot d L tb fi rows qt qi ci ∗ semVal (tV d L, SemLoc.dma sem) 0) ⊢ SlotIdle d L tb fi rows sem qt qi := by
  unfold SlotGot SlotIdle
  iintro ⟨⟨⟨%fr, -, Hr⟩, Hs⟩, Hv⟩
  isplitl [Hr]; · iexists fr; iexact Hr
  isplitl [Hs] <;> iassumption

/-- A guarded issue: when there is a chunk left its gather starts, and the slot is ready for it either way. -/
theorem wp_guard (hset : rows.view.set = Finset.univ)
    (hN : ∀ h : S131072x128.Gathers 0 S112x128, ∑ j, (rows.slice (S112x128.rowRect h.axis' j) (S112x128.stride_rowRect h.axis' j)).view.dmaCredit = rows.view.dmaCredit)
    (hfi : ∀ y, (fi y).toNat < 131072) (c : BitVec 1) (off : Fin 2 → ℕ) (h : c = 1#1 → ∀ a, off a + S1x112.size a ≤ S196x112.size a) (ci : ℕ)
    (hoff : off 0 = ci ∧ off 1 = 0) (hc : c = 1#1 ↔ ci < 196)
    {hp hsrc he hsp hr hn} {α : Type} {k : TileProg F L α} {Q : α → sProp 𝕄} :
    iprop(SlotIdle d L tb fi rows sem qt qi ∗ (SlotAt d L tb fi rows sem qt qi ci -∗ wp frame (wpE (defs₀ (F := F)) 𝒱₀ (tV d L) none) Set.univ k Q))
      ⊢ (wp frame (wpE (defs₀ (F := F)) 𝒱₀ (tV d L) none) Set.univ
        (if hh : c = 1#1 then SparseCore.enqueueIndirectGather hp tabAll rows gathers_S131072x128_S112x128 (ixRow off (h hh)) hn sem hsrc he hsp hr >>= fun _ => k
          else k) Q : sProp 𝕄) := by
  unfold SlotAt
  by_cases hh : c = 1#1
  · rw [dif_pos hh]
    rw [if_pos (hc.mp hh)]
    exact wp_issue (F := F) (k := fun _ => k) d L hset hN hfi off (h hh) ci hoff
  · rw [dif_neg hh]
    rw [if_neg (fun x => hh (hc.mpr x))]
    iintro ⟨H, HK⟩
    iapply HK; iexact H

/-- The value of a chunk's point `p` in channel `ch`. -/
def outT (tb : S131072x128.Idx → F .f32) (fi : S196x112.Idx → BitVec 32) (fw : S196x112.Idx → F .f32) (ci p ch : ℕ) : F .f32 :=
  pt8 (fun k => chN fw ci (8 * p + k.val)) fun k => rowsN tb fi ci (8 * p + k.val) ch

/-- The staged output, holding its target below `B`. -/
def OutTo (Tgt : ℕ → F .f32) (B : ℕ) : sProp 𝕄 :=
  iprop(∃ fo, ⌜Good outV (thr := tV d L) fo Tgt B⌝ ∗ (outV.view.loc (tV d L) ↦{fullShare} fo))

/-- A slot's loop: seven trips bring the staged output from `1792 * j` to `1792 * (j + 1)`. -/
theorem wp_loop (lp : Scf.Loop 32) (hok : lp.OK) (body : Fin lp.trips → PUnit → TileProg F L PUnit) (offs : Fin lp.trips → Offs)
    (hb : ∀ t, body t ⟨⟩ = trip (offs t) wV rows outV) (hlp : lp.trips = 7)
    {fw : S196x112.Idx → F .f32} (Tgt : ℕ → F .f32) (j ci : ℕ)
    (hw : ∀ t, (offs t).w 0 = ci ∧ (offs t).w 1 = 16 * t.val)
    (ho : ∀ t h g, (offs t).o h g 0 = 1792 * j + 256 * t.val + 128 * h.val + 16 * g.val)
    (hr : ∀ t g h k, (offs t).r g h k 0 = 16 * t.val + 8 * h.val + k.val ∧ (offs t).r g h k 1 = 16 * g.val)
    (hT : ∀ p < 14, ∀ ch < 128, Tgt (1792 * j + 128 * p + ch) = outT tb fi fw ci p ch)
    {α : Type} {k : PUnit → TileProg F L α} {Q : α → sProp 𝕄} :
    iprop(SlotGot d L tb fi rows qt qi ci ∗ (wV.view.loc (tV d L) ↦{fullShare} fw) ∗ OutTo d L Tgt (1792 * j)
        ∗ (SlotGot d L tb fi rows qt qi ci -∗ (wV.view.loc (tV d L) ↦{fullShare} fw) -∗ OutTo d L Tgt (1792 * (j + 1))
          -∗ wp frame (wpE (defs₀ (F := F)) 𝒱₀ (tV d L) none) Set.univ (k ⟨⟩) Q))
      ⊢ (wp frame (wpE (defs₀ (F := F)) 𝒱₀ (tV d L) none) Set.univ (Scf.Loop.for lp hok ⟨⟩ body >>= k) Q : sProp 𝕄) := by
  unfold SlotGot OutTo
  iintro ⟨⟨⟨%fr, %hR, Hr⟩, Hs⟩, Hw, Ho, HK⟩
  iapply (Scf.wp_for_bind frame (wpE (defs₀ (F := F)) 𝒱₀ (tV d L) none) Set.univ lp.lb lp.ub lp.st hok ⟨⟩ body
    (fun t _ => iprop((wV.view.loc (tV d L) ↦{fullShare} fw) ∗ (rows.view.loc (tV d L) ↦{fullShare} fr) ∗ OutTo d L Tgt (1792 * j + 256 * t)))
    (by
      intro t acc
      obtain ⟨⟩ := acc
      rw [hb t]
      unfold OutTo
      iintro ⟨Hw, Hr, %fo, %hG, Ho⟩
      iapply (wp_mono frame _ _ (fun _ => ?_)) $$ [Hw Hr Ho]
      rotate_left
      · iapply (wp_trip d L (offs t) (wv := wV) (rows := rows) (out := outV) (fw := fw) (fr := fr) (fo := fo) Tgt (chN fw) (rowsN tb fi ci) (1792 * j + 256 * t.val) ci t.val (fun y => chN_eq fw y) hR hG (hw t)
          (ho t) (hr t) ?_)
        · intro h hh ch hch
          have ht : t.val < 7 := hlp ▸ t.isLt
          have := hT (2 * t.val + h) (by omega) ch hch
          rw [show 1792 * j + 128 * (2 * t.val + h) + ch = 1792 * j + 256 * t.val + 128 * h + ch by omega] at this
          rw [this]; unfold outT
          have e : ∀ k, 8 * (2 * t.val + h) + k = 16 * t.val + 8 * h + k := fun k => by omega
          simp only [e]
        · isplitl [Hw]; · iexact Hw
          isplitl [Hr] <;> iassumption
      · iintro ⟨Hw, Hr, %fo, %hG, Ho⟩
        isplitl [Hw]; · iexact Hw
        isplitl [Hr]; · iexact Hr
        iexists fo; isplitr
        · ipureintro; exact hG
        · iexact Ho)) $$ [Hw Hr Ho]
  · isplitl [Hw]; · iexact Hw
    isplitl [Hr]; · iexact Hr
    unfold OutTo; iexact Ho
  iintro %acc ⟨Hw, Hr, Ho⟩
  iapply HK $$ [Hr Hs] [Hw] [Ho]
  · isplitl [Hr]
    · iexists fr; isplitr; · ipureintro; exact hR
      iexact Hr
    · iexact Hs
  · iexact Hw
  · have e : 1792 * j + 256 * Scf.trips lp.lb lp.ub lp.st = 1792 * (j + 1) := by
      have : Scf.trips lp.lb lp.ub lp.st = 7 := hlp
      omega
    rw [e]; unfold OutTo; iexact Ho

end

end Cert.Proof
-- ==== Proof.Copy.lean ====
module

public import proofs.«01_k».proof.Proof.Slot

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## A tile's own copies -/

abbrev outH : Memref sig .scVector .hbm S11239424 .f32 := Memref.whole main_v5_scv

/-- A stretch of 7168 elements of the result. -/
abbrev outPiece (off : Fin 1 → ℕ) (hoff : ∀ a, off a + S7168.size a ≤ S11239424.size a) : Memref sig .scVector .hbm S7168 .f32 :=
  outH.slice (Rect.unit (s := S11239424) off S7168.size hoff) (fun _ => rfl)

/-- The number of a tile: its chunks are row `wid` of the tables. -/
abbrev wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-- The elements of the result a tile writes. -/
def seg (n : ℕ) : Finset S11239424.Idx := Finset.univ.filter fun y => 351232 * n ≤ (y 0).val ∧ (y 0).val < 351232 * n + 351232

theorem mem_seg {n : ℕ} {y : S11239424.Idx} : y ∈ seg n ↔ 351232 * n ≤ (y 0).val ∧ (y 0).val < 351232 * n + 351232 := by
  simp [seg]

section
variable (d : Dev nD) (L : grid1.Coords) {O : CellTallies nD τ sig (HIx 1)} {W : Waits sig (HIx 1)}

/-- A local copy and its wait: the destination holds what the source reads. -/
theorem wp_copy {sp sp' sp'' : Space} {s s' : Shape} {e e' : EltTy} {src : Memref sig .scVector sp s e} {dst : Memref sig .scVector sp' s e} {sem : DmaSem sig}
    {srcw : Memref sig .scVector sp'' s' e'} {κ' : Kind} {dstw : Memref sig κ' sp' s e}
    {h1 : src.view.WordExact} {h2 : dst.view.WordExact} {h3} {h4 : srcw.view.WordExact} {h5 : dstw.view.WordExact}
    {q : PosShare TreeShare} {fs : Buf (Elt F) (src.view.loc (tV d L))}
    {Sd : Finset (Idx (dst.view.loc (tV d L)))} {fd : Buf (Elt F) (dst.view.loc (tV d L))}
    (hN : dstw.view.dmaCredit = dst.view.amount (.dma sem)) (hN0 : 0 < dst.view.amount (.dma sem)) (hSd : dst.view.set ⊆ Sd)
    {α : Type} {k : PUnit → TileProg F L α} {Q : α → sProp 𝕄} :
    iprop((src.view.loc (tV d L) ↦[src.view.set]{q} fs) ∗ (dst.view.loc (tV d L) ↦[Sd]{fullShare} fd) ∗ semVal (tV d L, SemLoc.dma sem) 0
        ∗ Owes d L O W ∗ Transfers.MayWaits (tV d L) (default : HIx 1) O
        ∗ ((src.view.loc (tV d L) ↦[src.view.set]{q} fs)
          -∗ (dst.view.loc (tV d L) ↦[Sd]{fullShare} (dst.view.write (Elt F) fd (src.view.read (Elt F) fs) Finset.univ))
          -∗ semVal (tV d L, SemLoc.dma sem) 0 -∗ Owes d L O W -∗ wp frame (wpE (defs₀ (F := F)) 𝒱₀ (tV d L) none) Set.univ (k ⟨⟩) Q))
      ⊢ (wp frame (wpE (defs₀ (F := F)) 𝒱₀ (tV d L) none) Set.univ
          ((Prog.lift (.enqueueDma src (.here dst) (.dma sem) h1 h2 h3) : TileProg F L PUnit) >>= fun _ =>
            ((Prog.lift (.waitDma2 sem srcw dstw h4 h5) : TileProg F L PUnit) >>= k)) Q : sProp 𝕄) := by
  iintro ⟨Hs, Hd, Hv, HO, #Hmw, HK⟩
  ihave HO' := (show Owes d L O W ⊢ iprop(∃ W', ⌜∀ p ∈ W', p ∈ W ∨ p.2 = none⌝ ∗ owes (tV d L) O W') by unfold Owes; exact .refl) $$ HO
  icases HO' with ⟨%W', %hW', HO⟩
  iapply (Transfers.wp_dmaLocal countersEmb 𝒱₀ (tV d L) none (default : HIx 1) _ rfl hN0 hSd) $$ [Hs Hd Hv]
  · isplitl [Hs]; · iexact Hs
    isplitl [Hd] <;> iassumption
  iintro Hfl
  iapply (Transfers.wp_waitLocalO countersEmb 𝒱₀ (tV d L) none (default : HIx 1) hN) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply HK $$ [Hs] [Hd] [Hv] [HO]
  · iexact Hs
  · iexact Hd
  · iexact Hv
  · iapply (owes_insert d L hW' (SemLoc.dma sem)) $$ HO

/-- A tile's part of the result, its first `n` elements holding their target. -/
def Part (T : ℕ → F .f32) (n : ℕ) : sProp 𝕄 :=
  iprop(∃ f : Buf (Elt F) (outH.view.loc (tV d L)),
    ⌜∀ y : S11239424.Idx, 351232 * wid L ≤ (y 0).val → (y 0).val < 351232 * wid L + n → f y = T ((y 0).val - 351232 * wid L)⌝
      ∗ (outH.view.loc (tV d L) ↦[seg (wid L)]{fullShare} f))

/-- Four chunks' results copied out. -/
theorem wp_out (T : ℕ → F .f32) (n : ℕ) (hn : n + 7168 ≤ 351232) {off : Fin 1 → ℕ} {hoff : ∀ a, off a + S7168.size a ≤ S11239424.size a}
    (ho : off 0 = 351232 * wid L + n) {sem : DmaSem sig} {h1 h2 h3} {srcw : Memref sig .scVector .vmem S7168 .f32} {dstw : Memref sig .scVector .hbm S7168 .f32} {h4 h5}
    (hN : dstw.view.dmaCredit = (outPiece off hoff).view.amount (.dma sem))
    (hN0 : 0 < (outPiece off hoff).view.amount (.dma sem))
    {α : Type} {k : PUnit → TileProg F L α} {Q : α → sProp 𝕄} :
    iprop(OutTo d L (fun o => T (n + o)) 7168 ∗ Part d L T n ∗ semVal (tV d L, SemLoc.dma sem) 0 ∗ Owes d L O W
        ∗ Transfers.MayWaits (tV d L) (default : HIx 1) O
        ∗ (OutTo d L (fun o => T (n + o)) 7168 -∗ Part d L T (n + 7168) -∗ semVal (tV d L, SemLoc.dma sem) 0 -∗ Owes d L O W
          -∗ wp frame (wpE (defs₀ (F := F)) 𝒱₀ (tV d L) none) Set.univ (k ⟨⟩) Q))
      ⊢ (wp frame (wpE (defs₀ (F := F)) 𝒱₀ (tV d L) none) Set.univ
          ((Prog.lift (.enqueueDma outV (.here (outPiece off hoff)) (.dma sem) h1 h2 h3) : TileProg F L PUnit) >>= fun _ =>
            ((Prog.lift (.waitDma2 sem srcw dstw h4 h5) : TileProg F L PUnit) >>= k)) Q : sProp 𝕄) := by
  unfold OutTo Part
  iintro ⟨⟨%fo, %hG, Hs⟩, ⟨%f, %hf, Hd⟩, Hv, HO, #Hmw, HK⟩
  have hos : outV.view.set = Finset.univ := View.set_whole _
  have hmem : ∀ x : S7168.Idx, ((((outPiece off hoff).view.emb x : S11239424.Idx) 0).val) = 351232 * wid L + n + (x 0).val := by
    intro x
    show off 0 + 1 * (x 0).val = _
    rw [ho]; omega
  have hnew : ∀ y : S11239424.Idx, 351232 * wid L ≤ (y 0).val → (y 0).val < 351232 * wid L + (n + 7168)
      → (outPiece off hoff).view.write (Elt F) f (outV.view.read (Elt F) fo) Finset.univ y
        = T ((y 0).val - 351232 * wid L) := by
    intro y hy1 hy2
    by_cases hy : 351232 * wid L + n ≤ (y 0).val
    · have hl : (y 0).val - (351232 * wid L + n) < 7168 := by omega
      have e : (outPiece off hoff).view.emb (ix1 ⟨(y 0).val - (351232 * wid L + n), hl⟩ : S7168.Idx) = y := by
        refine funext fun (a : Fin 1) => ?_
        obtain rfl : a = 0 := Subsingleton.elim _ _
        refine Fin.ext ?_
        refine (hmem _).trans ?_
        show 351232 * wid L + n + ((y 0).val - (351232 * wid L + n)) = _
        omega
      rw [← e, View.write_emb_of_mem _ _ (Finset.mem_univ _), cast_eq, hG _ hl, e]
      show T (n + ((y 0).val - (351232 * wid L + n))) = _
      congr 1; omega
    · rw [View.write_of_not_mem]
      · exact hf y hy1 (by omega)
      · intro hm
        obtain ⟨x, -, hx⟩ := Finset.mem_map.mp hm
        have := hmem x
        rw [hx] at this; omega
  ihave Hs' := (Entails.of_eq (show ((outV).view.loc (tV d L) ↦{fullShare} fo : sProp 𝕄) = outV.view.loc (tV d L) ↦[outV.view.set]{fullShare} fo by rw [hos])) $$ Hs
  iapply (wp_copy d L (O := O) (W := W) (src := outV) (dst := outPiece off hoff) (fs := fo) (fd := f) (Sd := seg (wid L)) hN hN0 (fun y hy => by
    obtain ⟨x, -, hx⟩ := Finset.mem_map.mp hy
    have hl : (x 0).val < 7168 := (x 0).isLt
    have := hmem x
    rw [hx] at this
    exact mem_seg.mpr (by omega))) $$ [Hs' Hd Hv HO HK]
  isplitl [Hs']; · iexact Hs'
  isplitl [Hd]; · iexact Hd
  isplitl [Hv]; · iexact Hv
  isplitl [HO]; · iexact HO
  isplitr; · iexact Hmw
  iintro Hs Hd Hv HO
  iapply HK $$ [Hs] [Hd] [Hv] [HO]
  · iexists fo; isplitr; · ipureintro; exact hG
    rw [hos]; iexact Hs
  · iexists ((outPiece off hoff).view.write (Elt F) f (outV.view.read (Elt F) fo) Finset.univ)
    isplitr; swap; · iexact Hd
    ipureintro; exact hnew
  · iexact Hv
  · iexact HO

end

end Cert.Proof
-- ==== Proof.OffsAt.lean ====
module

public import proofs.«01_k».proof.Proof.Trip

@[expose] public section

namespace Cert.Proof

open Cert.KernelIdeal Cert.KernelIdeal.Gen
open Idealize.ShloMosaic

/-! ## The closed forms of the inner loops' offsets -/

/-- What the offsets of slot `j`'s loop are at trip `t`: the sixteen weights of chunk `4 * cj + j` from column `16 * t`, the rows from
    `16 * t`, the staged output from `1792 * j + 256 * t`. -/
structure Offs.At (O : Offs) (j ci t : ℕ) : Prop where
  w : O.w 0 = ci ∧ O.w 1 = 16 * t
  o : ∀ h g, O.o h g 0 = 1792 * j + 256 * t + 128 * h.val + 16 * g.val
  r : ∀ g h k, O.r g h k 0 = 16 * t + 8 * h.val + k.val ∧ O.r g h k 1 = 16 * g.val

/-- The first slot's offsets. -/
theorem offs0_at (cj : Fin k1_t1_loop.trips) (t : Fin k1_t2_loop.trips) : (offs0 cj t).At 0 (4 * cj.val + 0) t.val where
  w := by
    have e : (offs0 cj t).w = _ := k1_off3_eq cj t
    rw [e]; exact ⟨rfl, rfl⟩
  o h g := by
    have e : (offs0 cj t).o h g = _ := k1_off5_eq t h g
    rw [e]; first | rfl | (show (_ : ℕ) = _; simp <;> omega)
  r g h k := by
    match g with
    | 0 => have e : (offs0 cj t).r 0 h k = _ := k1_off4_eq t h k
           rw [e]; exact ⟨rfl, rfl⟩
    | 1 => have e : (offs0 cj t).r 1 h k = _ := k1_off6_eq t h k
           rw [e]; exact ⟨rfl, rfl⟩
    | 2 => have e : (offs0 cj t).r 2 h k = _ := k1_off7_eq t h k
           rw [e]; exact ⟨rfl, rfl⟩
    | 3 => have e : (offs0 cj t).r 3 h k = _ := k1_off8_eq t h k
           rw [e]; exact ⟨rfl, rfl⟩
    | 4 => have e : (offs0 cj t).r 4 h k = _ := k1_off9_eq t h k
           rw [e]; exact ⟨rfl, rfl⟩
    | 5 => have e : (offs0 cj t).r 5 h k = _ := k1_off10_eq t h k
           rw [e]; exact ⟨rfl, rfl⟩
    | 6 => have e : (offs0 cj t).r 6 h k = _ := k1_off11_eq t h k
           rw [e]; exact ⟨rfl, rfl⟩
    | 7 => have e : (offs0 cj t).r 7 h k = _ := k1_off12_eq t h k
           rw [e]; exact ⟨rfl, rfl⟩

/-- The second slot's offsets. -/
theorem offs1_at (cj : Fin k1_t1_loop.trips) (t : Fin k1_t3_loop.trips) : (offs1 cj t).At 1 (4 * cj.val + 1) t.val where
  w := by
    have e : (offs1 cj t).w = _ := k1_off14_eq cj t
    rw [e]; exact ⟨rfl, rfl⟩
  o h g := by
    have e : (offs1 cj t).o h g = _ := k1_off16_eq t h g
    rw [e]; first | rfl | (show (_ : ℕ) = _; simp <;> omega)
  r g h k := by
    match g with
    | 0 => have e : (offs1 cj t).r 0 h k = _ := k1_off15_eq t h k
           rw [e]; exact ⟨rfl, rfl⟩
    | 1 => have e : (offs1 cj t).r 1 h k = _ := k1_off17_eq t h k
           rw [e]; exact ⟨rfl, rfl⟩
    | 2 => have e : (offs1 cj t).r 2 h k = _ := k1_off18_eq t h k
           rw [e]; exact ⟨rfl, rfl⟩
    | 3 => have e : (offs1 cj t).r 3 h k = _ := k1_off19_eq t h k
           rw [e]; exact ⟨rfl, rfl⟩
    | 4 => have e : (offs1 cj t).r 4 h k = _ := k1_off20_eq t h k
           rw [e]; exact ⟨rfl, rfl⟩
    | 5 => have e : (offs1 cj t).r 5 h k = _ := k1_off21_eq t h k
           rw [e]; exact ⟨rfl, rfl⟩
    | 6 => have e : (offs1 cj t).r 6 h k = _ := k1_off22_eq t h k
           rw [e]; exact ⟨rfl, rfl⟩
    | 7 => have e : (offs1 cj t).r 7 h k = _ := k1_off23_eq t h k
           rw [e]; exact ⟨rfl, rfl⟩

/-- The third slot's offsets. -/
theorem offs2_at (cj : Fin k1_t1_loop.trips) (t : Fin k1_t4_loop.trips) : (offs2 cj t).At 2 (4 * cj.val + 2) t.val where
  w := by
    have e : (offs2 cj t).w = _ := k1_off25_eq cj t
    rw [e]; exact ⟨rfl, rfl⟩
  o h g := by
    have e : (offs2 cj t).o h g = _ := k1_off27_eq t h g
    rw [e]; first | rfl | (show (_ : ℕ) = _; simp <;> omega)
  r g h k := by
    match g with
    | 0 => have e : (offs2 cj t).r 0 h k = _ := k1_off26_eq t h k
           rw [e]; exact ⟨rfl, rfl⟩
    | 1 => have e : (offs2 cj t).r 1 h k = _ := k1_off28_eq t h k
           rw [e]; exact ⟨rfl, rfl⟩
    | 2 => have e : (offs2 cj t).r 2 h k = _ := k1_off29_eq t h k
           rw [e]; exact ⟨rfl, rfl⟩
    | 3 => have e : (offs2 cj t).r 3 h k = _ := k1_off30_eq t h k
           rw [e]; exact ⟨rfl, rfl⟩
    | 4 => have e : (offs2 cj t).r 4 h k = _ := k1_off31_eq t h k
           rw [e]; exact ⟨rfl, rfl⟩
    | 5 => have e : (offs2 cj t).r 5 h k = _ := k1_off32_eq t h k
           rw [e]; exact ⟨rfl, rfl⟩
    | 6 => have e : (offs2 cj t).r 6 h k = _ := k1_off33_eq t h k
           rw [e]; exact ⟨rfl, rfl⟩
    | 7 => have e : (offs2 cj t).r 7 h k = _ := k1_off34_eq t h k
           rw [e]; exact ⟨rfl, rfl⟩

/-- The fourth slot's offsets. -/
theorem offs3_at (cj : Fin k1_t1_loop.trips) (t : Fin k1_t5_loop.trips) : (offs3 cj t).At 3 (4 * cj.val + 3) t.val where
  w := by
    have e : (offs3 cj t).w = _ := k1_off36_eq cj t
    rw [e]; exact ⟨rfl, rfl⟩
  o h g := by
    have e : (offs3 cj t).o h g = _ := k1_off38_eq t h g
    rw [e]; first | rfl | (show (_ : ℕ) = _; simp <;> omega)
  r g h k := by
    match g with
    | 0 => have e : (offs3 cj t).r 0 h k = _ := k1_off37_eq t h k
           rw [e]; exact ⟨rfl, rfl⟩
    | 1 => have e : (offs3 cj t).r 1 h k = _ := k1_off39_eq t h k
           rw [e]; exact ⟨rfl, rfl⟩
    | 2 => have e : (offs3 cj t).r 2 h k = _ := k1_off40_eq t h k
           rw [e]; exact ⟨rfl, rfl⟩
    | 3 => have e : (offs3 cj t).r 3 h k = _ := k1_off41_eq t h k
           rw [e]; exact ⟨rfl, rfl⟩
    | 4 => have e : (offs3 cj t).r 4 h k = _ := k1_off42_eq t h k
           rw [e]; exact ⟨rfl, rfl⟩
    | 5 => have e : (offs3 cj t).r 5 h k = _ := k1_off43_eq t h k
           rw [e]; exact ⟨rfl, rfl⟩
    | 6 => have e : (offs3 cj t).r 6 h k = _ := k1_off44_eq t h k
           rw [e]; exact ⟨rfl, rfl⟩
    | 7 => have e : (offs3 cj t).r 7 h k = _ := k1_off45_eq t h k
           rw [e]; exact ⟨rfl, rfl⟩

end Cert.Proof
-- ==== Proof.TripEq.lean ====
module

public import proofs.«01_k».proof.Proof.Trip

@[expose] public section

set_option maxRecDepth 65536

noncomputable section

namespace Cert.Proof

open Cert.KernelIdeal Cert.KernelIdeal.Gen Idealize.ShloMosaic Idealize.SL.Sem

variable {F : FTy → Type} [FloatOps F]

/-- A trip of the first slot's loop is the common trip at that loop's offsets. -/
theorem t2_body_eq (i : grid1.Coords) (arg2 : Memref sig .scVector .hbm S131072x128 .f32) (harg2 : arg2.IsWhole) (arg3 : Memref sig .scVector .hbm S32x196x112
    .i32) (harg3 : arg3.IsWhole) (arg4 : Memref sig .scVector .hbm S32x196x112 .f32) (harg4 : arg4.IsWhole) (arg5 : Memref sig .scVector
    .hbm S11239424 .f32) (harg5 : arg5.IsWhole) (arg6 : Memref sig .scVector .vmem S196x112 .i32) (harg6 : arg6.IsWhole) (arg7 : Memref sig
    .scVector .vmem S196x112 .f32) (harg7 : arg7.IsWhole) (arg8 : Memref sig .scVector .vmem S112x128 .f32) (harg8 : arg8.IsWhole) (arg9 :
    Memref sig .scVector .vmem S112x128 .f32) (harg9 : arg9.IsWhole) (arg10 : Memref sig .scVector .vmem S112x128 .f32) (harg10 :
    arg10.IsWhole) (arg11 : Memref sig .scVector .vmem S112x128 .f32) (harg11 : arg11.IsWhole) (arg12 : Memref sig .scVector .vmem S7168
    .f32) (harg12 : arg12.IsWhole) (arg13 : DmaSems sig S_) (arg14 : DmaSems sig S_) (arg15 : DmaSems sig S_) (arg16 : DmaSems sig S_)
    (v17_r0 : DmaSems sig S_) (v17_r1 : DmaSems sig S_) (v57_r2 : DmaSems sig S_) (c0_i32_14 : BitVec 32) (c1_i32_15 : BitVec 32) (k1_t1 :
    Fin k1_t1_loop.trips) (v18 : BitVec 32)
    (t : Fin k1_t2_loop.trips) :
    k1_t2_body (F := F) i arg2 harg2 arg3 harg3 arg4 harg4 arg5 harg5 arg6 harg6 arg7 harg7 arg8 harg8 arg9 harg9 arg10 harg10 arg11 harg11
      arg12 harg12 arg13 arg14 arg15 arg16 v17_r0 v17_r1 v57_r2 c0_i32_14 c1_i32_15 k1_t1 v18 t () =
      trip (offs0 k1_t1 t) arg7 arg8 arg12 := rfl

/-- A trip of the second slot's loop is the common trip at that loop's offsets. -/
theorem t3_body_eq (i : grid1.Coords) (arg2 : Memref sig .scVector .hbm S131072x128 .f32) (harg2 : arg2.IsWhole) (arg3 : Memref sig .scVector .hbm S32x196x112
    .i32) (harg3 : arg3.IsWhole) (arg4 : Memref sig .scVector .hbm S32x196x112 .f32) (harg4 : arg4.IsWhole) (arg5 : Memref sig .scVector
    .hbm S11239424 .f32) (harg5 : arg5.IsWhole) (arg6 : Memref sig .scVector .vmem S196x112 .i32) (harg6 : arg6.IsWhole) (arg7 : Memref sig
    .scVector .vmem S196x112 .f32) (harg7 : arg7.IsWhole) (arg8 : Memref sig .scVector .vmem S112x128 .f32) (harg8 : arg8.IsWhole) (arg9 :
    Memref sig .scVector .vmem S112x128 .f32) (harg9 : arg9.IsWhole) (arg10 : Memref sig .scVector .vmem S112x128 .f32) (harg10 :
    arg10.IsWhole) (arg11 : Memref sig .scVector .vmem S112x128 .f32) (harg11 : arg11.IsWhole) (arg12 : Memref sig .scVector .vmem S7168
    .f32) (harg12 : arg12.IsWhole) (arg13 : DmaSems sig S_) (arg14 : DmaSems sig S_) (arg15 : DmaSems sig S_) (arg16 : DmaSems sig S_)
    (v17_r0 : DmaSems sig S_) (v17_r1 : DmaSems sig S_) (v57_r2 : DmaSems sig S_) (c0_i32_14 : BitVec 32) (c1_i32_15 : BitVec 32) (k1_t1 :
    Fin k1_t1_loop.trips) (v27 : BitVec 32)
    (t : Fin k1_t3_loop.trips) :
    k1_t3_body (F := F) i arg2 harg2 arg3 harg3 arg4 harg4 arg5 harg5 arg6 harg6 arg7 harg7 arg8 harg8 arg9 harg9 arg10 harg10 arg11 harg11
      arg12 harg12 arg13 arg14 arg15 arg16 v17_r0 v17_r1 v57_r2 c0_i32_14 c1_i32_15 k1_t1 v27 t () =
      trip (offs1 k1_t1 t) arg7 arg9 arg12 := rfl

/-- A trip of the third slot's loop is the common trip at that loop's offsets. -/
theorem t4_body_eq (i : grid1.Coords) (arg2 : Memref sig .scVector .hbm S131072x128 .f32) (harg2 : arg2.IsWhole) (arg3 : Memref sig .scVector .hbm S32x196x112
    .i32) (harg3 : arg3.IsWhole) (arg4 : Memref sig .scVector .hbm S32x196x112 .f32) (harg4 : arg4.IsWhole) (arg5 : Memref sig .scVector
    .hbm S11239424 .f32) (harg5 : arg5.IsWhole) (arg6 : Memref sig .scVector .vmem S196x112 .i32) (harg6 : arg6.IsWhole) (arg7 : Memref sig
    .scVector .vmem S196x112 .f32) (harg7 : arg7.IsWhole) (arg8 : Memref sig .scVector .vmem S112x128 .f32) (harg8 : arg8.IsWhole) (arg9 :
    Memref sig .scVector .vmem S112x128 .f32) (harg9 : arg9.IsWhole) (arg10 : Memref sig .scVector .vmem S112x128 .f32) (harg10 :
    arg10.IsWhole) (arg11 : Memref sig .scVector .vmem S112x128 .f32) (harg11 : arg11.IsWhole) (arg12 : Memref sig .scVector .vmem S7168
    .f32) (harg12 : arg12.IsWhole) (arg13 : DmaSems sig S_) (arg14 : DmaSems sig S_) (arg15 : DmaSems sig S_) (arg16 : DmaSems sig S_)
    (v17_r0 : DmaSems sig S_) (v17_r1 : DmaSems sig S_) (v57_r2 : DmaSems sig S_) (k1_t1 : Fin k1_t1_loop.trips) (v36 : BitVec 32)
    (t : Fin k1_t4_loop.trips) :
    k1_t4_body (F := F) i arg2 harg2 arg3 harg3 arg4 harg4 arg5 harg5 arg6 harg6 arg7 harg7 arg8 harg8 arg9 harg9 arg10 harg10 arg11 harg11
      arg12 harg12 arg13 arg14 arg15 arg16 v17_r0 v17_r1 v57_r2 k1_t1 v36 t () =
      trip (offs2 k1_t1 t) arg7 arg10 arg12 := rfl

/-- A trip of the fourth slot's loop is the common trip at that loop's offsets. -/
theorem t5_body_eq (i : grid1.Coords) (arg2 : Memref sig .scVector .hbm S131072x128 .f32) (harg2 : arg2.IsWhole) (arg3 : Memref sig .scVector .hbm S32x196x112
    .i32) (harg3 : arg3.IsWhole) (arg4 : Memref sig .scVector .hbm S32x196x112 .f32) (harg4 : arg4.IsWhole) (arg5 : Memref sig .scVector
    .hbm S11239424 .f32) (harg5 : arg5.IsWhole) (arg6 : Memref sig .scVector .vmem S196x112 .i32) (harg6 : arg6.IsWhole) (arg7 : Memref sig
    .scVector .vmem S196x112 .f32) (harg7 : arg7.IsWhole) (arg8 : Memref sig .scVector .vmem S112x128 .f32) (harg8 : arg8.IsWhole) (arg9 :
    Memref sig .scVector .vmem S112x128 .f32) (harg9 : arg9.IsWhole) (arg10 : Memref sig .scVector .vmem S112x128 .f32) (harg10 :
    arg10.IsWhole) (arg11 : Memref sig .scVector .vmem S112x128 .f32) (harg11 : arg11.IsWhole) (arg12 : Memref sig .scVector .vmem S7168
    .f32) (harg12 : arg12.IsWhole) (arg13 : DmaSems sig S_) (arg14 : DmaSems sig S_) (arg15 : DmaSems sig S_) (arg16 : DmaSems sig S_)
    (v17_r0 : DmaSems sig S_) (v17_r1 : DmaSems sig S_) (v57_r2 : DmaSems sig S_) (k1_t1 : Fin k1_t1_loop.trips) (v45 : BitVec 32)
    (t : Fin k1_t5_loop.trips) :
    k1_t5_body (F := F) i arg2 harg2 arg3 harg3 arg4 harg4 arg5 harg5 arg6 harg6 arg7 harg7 arg8 harg8 arg9 harg9 arg10 harg10 arg11 harg11
      arg12 harg12 arg13 arg14 arg15 arg16 v17_r0 v17_r1 v57_r2 k1_t1 v45 t () =
      trip (offs3 k1_t1 t) arg7 arg11 arg12 := rfl

end Cert.Proof
-- ==== Proof.Quad.lean ====
module

public import proofs.«01_k».proof.Proof.Copy
public import proofs.«01_k».proof.Proof.OffsAt
public import proofs.«01_k».proof.Proof.TripEq

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Four chunks: one trip of the outer loop -/

abbrev r0V : Memref sig .scVector .vmem S112x128 .f32 := Memref.whole cc1_scratch2
abbrev r1V : Memref sig .scVector .vmem S112x128 .f32 := Memref.whole cc1_scratch3
abbrev r2V : Memref sig .scVector .vmem S112x128 .f32 := Memref.whole cc1_scratch4
abbrev r3V : Memref sig .scVector .vmem S112x128 .f32 := Memref.whole cc1_scratch5

theorem cond1_iff : ∀ cj, k1_cond1 cj = 1#1 ↔ 4 * cj.val + 4 < 196 := by decide
theorem cond2_iff : ∀ cj, k1_cond2 cj = 1#1 ↔ 4 * cj.val + 5 < 196 := by decide
theorem cond3_iff : ∀ cj, k1_cond3 cj = 1#1 ↔ 4 * cj.val + 6 < 196 := by decide
theorem cond4_iff : ∀ cj, k1_cond4 cj = 1#1 ↔ 4 * cj.val + 7 < 196 := by decide

theorem trips1 : k1_t1_loop.trips = 49 := by decide
theorem trips2 : k1_t2_loop.trips = 7 := by decide
theorem trips3 : k1_t3_loop.trips = 7 := by decide
theorem trips4 : k1_t4_loop.trips = 7 := by decide
theorem trips5 : k1_t5_loop.trips = 7 := by decide

theorem credit0 : ∀ h : S131072x128.Gathers 0 S112x128, ∑ j, (r0V.slice (S112x128.rowRect h.axis' j) (S112x128.stride_rowRect h.axis' j)).view.dmaCredit = r0V.view.dmaCredit := by decide
theorem credit1 : ∀ h : S131072x128.Gathers 0 S112x128, ∑ j, (r1V.slice (S112x128.rowRect h.axis' j) (S112x128.stride_rowRect h.axis' j)).view.dmaCredit = r1V.view.dmaCredit := by decide
theorem credit2 : ∀ h : S131072x128.Gathers 0 S112x128, ∑ j, (r2V.slice (S112x128.rowRect h.axis' j) (S112x128.stride_rowRect h.axis' j)).view.dmaCredit = r2V.view.dmaCredit := by decide
theorem credit3 : ∀ h : S131072x128.Gathers 0 S112x128, ∑ j, (r3V.slice (S112x128.rowRect h.axis' j) (S112x128.stride_rowRect h.axis' j)).view.dmaCredit = r3V.view.dmaCredit := by decide

section
variable (d : Dev nD) (L : grid1.Coords) (tb : S131072x128.Idx → F .f32) (fi : S196x112.Idx → BitVec 32) (fw : S196x112.Idx → F .f32)
variable (qt qi : Fin 4 → PosShare TreeShare) (O : CellTallies nD τ sig (HIx 1)) (W : Waits sig (HIx 1))

/-- A tile's whole target, by position from its first element. -/
def tileT (u : ℕ) : F .f32 := outT tb fi fw (u / 1792) (u % 1792 / 128) (u % 128)

theorem tileT_eq (ci p ch : ℕ) (hp : p < 14) (hch : ch < 128) : tileT tb fi fw (1792 * ci + 128 * p + ch) = outT tb fi fw ci p ch := by
  unfold tileT
  rw [show (1792 * ci + 128 * p + ch) / 1792 = ci by omega, show (1792 * ci + 128 * p + ch) % 1792 / 128 = p by omega,
    show (1792 * ci + 128 * p + ch) % 128 = ch by omega]

/-- What a tile holds before trip `cj` of the outer loop. -/
def QuadInv (cj : ℕ) : sProp 𝕄 :=
  iprop(SlotAt d L tb fi r0V cc1_scratch7.sem (qt 0) (qi 0) (4 * cj) ∗ SlotAt d L tb fi r1V cc1_scratch8.sem (qt 1) (qi 1) (4 * cj + 1)
    ∗ SlotAt d L tb fi r2V cc1_scratch9.sem (qt 2) (qi 2) (4 * cj + 2) ∗ SlotAt d L tb fi r3V cc1_scratch10.sem (qt 3) (qi 3) (4 * cj + 3)
    ∗ (wV.view.loc (tV d L) ↦{fullShare} fw) ∗ (∃ fo, outV.view.loc (tV d L) ↦{fullShare} fo)
    ∗ Part d L (tileT tb fi fw) (7168 * cj) ∗ semVal (tV d L, SemLoc.dma cc1_scoped2.sem) 0 ∗ Owes d L O W)

variable {tb fi fw qt qi O W}

set_option maxHeartbeats 4000000 in
/-- One trip of the outer loop: each slot waited for, its chunk summed, its next gather issued; the four chunks' results copied out. -/
theorem wp_quad (hfi : ∀ y, (fi y).toNat < 131072) (cj : Fin k1_t1_loop.trips) :
    iprop(QuadInv d L tb fi fw qt qi O W cj.val ∗ Transfers.MayWaits (tV d L) (default : HIx 1) O)
      ⊢ (wp frame (wpE (defs₀ (F := F)) 𝒱₀ (tV d L) none) Set.univ
          (k1_t1_body (F := F) L tabV (Memref.isWhole_whole _) (Memref.whole main_v3_scv) (Memref.isWhole_whole _) (Memref.whole main_v4_scv) (Memref.isWhole_whole _)
            outH (Memref.isWhole_whole _) ixV (Memref.isWhole_whole _) wV (Memref.isWhole_whole _) r0V (Memref.isWhole_whole _) r1V (Memref.isWhole_whole _)
            r2V (Memref.isWhole_whole _) r3V (Memref.isWhole_whole _) outV (Memref.isWhole_whole _) cc1_scratch7 cc1_scratch8 cc1_scratch9 cc1_scratch10
            cc1_scoped0 cc1_scoped1 cc1_scoped2 cj ⟨⟩)
          fun _ => QuadInv d L tb fi fw qt qi O W (cj.val + 1) : sProp 𝕄) := by
  have hcj : cj.val < 49 := trips1 ▸ cj.isLt
  have hT : ∀ j : ℕ, ∀ p < 14, ∀ ch < 128, tileT tb fi fw (7168 * cj.val + (1792 * j + 128 * p + ch)) = outT tb fi fw (4 * cj.val + j) p ch := by
    intro j p hp ch hch
    rw [← tileT_eq tb fi fw _ p ch hp hch]; congr 1; omega
  unfold k1_t1_body
  rw [k1_part89_eq_skeleton]; unfold k1_part89_skel
  unfold QuadInv
  iintro ⟨⟨H0, H1, H2, H3, Hw, ⟨%fo, Ho⟩, Hp, Hv, HO⟩, #Hmw⟩
  ihave Ho := (show (outV.view.loc (tV d L) ↦{fullShare} fo : sProp 𝕄) ⊢ OutTo d L (fun o => tileT tb fi fw (7168 * cj.val + o)) (1792 * 0) by
    unfold OutTo; iintro H; iexists fo; isplitr
    · ipureintro; intro y hy; exact absurd hy (by omega)
    · iexact H) $$ Ho
  rw [wp_bind]
  ihave H0 := (slotAt_flight d L (4 * cj.val + 0) (by omega)) $$ H0
  iapply (wp_await d L (rows := r0V) (sem := cc1_scratch7.sem) (W := W) (4 * cj.val + 0)) $$ [H0 HO Hw Ho H1 H2 H3 Hp Hv]
  isplitl [H0]; · iexact H0
  isplitl [HO]; · iexact HO
  isplitr; · iexact Hmw
  iintro H0 Hs HO
  iapply (wp_loop d L (rows := r0V) k1_t2_loop k1_t2_ok _ (offs0 cj) (fun t => t2_body_eq L _ _ _ _ _ _ _ _ _ _ _ _ _ _ _ _ _ _ _ _ _ _ _ _ _ _ _ _ _ _ _ cj _ t) trips2
    (fun o => tileT tb fi fw (7168 * cj.val + o)) 0 (4 * cj.val + 0) (fun t => (offs0_at cj t).w) (fun t => (offs0_at cj t).o) (fun t => (offs0_at cj t).r)
    (hT 0)) $$ [H0 HO Hw Ho Hs H1 H2 H3 Hp Hv]
  isplitl [H0]; · iexact H0
  isplitl [Hw]; · iexact Hw
  isplitl [Ho]; · iexact Ho
  iintro H0 Hw Ho
  ihave H0 := (slot_rest d L (sem := cc1_scratch7.sem) (4 * cj.val + 0)) $$ [H0 Hs]; · isplitl [H0] <;> iassumption
  iapply (wp_guard d L (rows := r0V) (sem := cc1_scratch7.sem) (View.set_whole _) credit0 hfi (k1_cond1 cj) (k1_off13 cj) (k1_off13_inb cj) (4 * cj.val + 4)
    (by rw [k1_off13_eq]; exact ⟨rfl, rfl⟩) (cond1_iff cj)) $$ [H0 HO Hw Ho H1 H2 H3 Hp Hv]
  isplitl [H0]; · iexact H0
  iintro H0
  ihave H1 := (slotAt_flight d L (4 * cj.val + 1) (by omega)) $$ H1
  iapply (wp_await d L (rows := r1V) (sem := cc1_scratch8.sem) (W := W) (4 * cj.val + 1)) $$ [H1 HO Hw Ho H2 H3 H0 Hp Hv]
  isplitl [H1]; · iexact H1
  isplitl [HO]; · iexact HO
  isplitr; · iexact Hmw
  iintro H1 Hs HO
  iapply (wp_loop d L (rows := r1V) k1_t3_loop k1_t3_ok _ (offs1 cj) (fun t => t3_body_eq L _ _ _ _ _ _ _ _ _ _ _ _ _ _ _ _ _ _ _ _ _ _ _ _ _ _ _ _ _ _ _ cj _ t) trips3
    (fun o => tileT tb fi fw (7168 * cj.val + o)) 1 (4 * cj.val + 1) (fun t => (offs1_at cj t).w) (fun t => (offs1_at cj t).o) (fun t => (offs1_at cj t).r)
    (hT 1)) $$ [H1 HO Hw Ho Hs H2 H3 H0 Hp Hv]
  isplitl [H1]; · iexact H1
  isplitl [Hw]; · iexact Hw
  isplitl [Ho]; · iexact Ho
  iintro H1 Hw Ho
  ihave H1 := (slot_rest d L (sem := cc1_scratch8.sem) (4 * cj.val + 1)) $$ [H1 Hs]; · isplitl [H1] <;> iassumption
  iapply (wp_guard d L (rows := r1V) (sem := cc1_scratch8.sem) (View.set_whole _) credit1 hfi (k1_cond2 cj) (k1_off24 cj) (k1_off24_inb cj) (4 * cj.val + 5)
    (by rw [k1_off24_eq]; exact ⟨rfl, rfl⟩) (cond2_iff cj)) $$ [H1 HO Hw Ho H2 H3 H0 Hp Hv]
  isplitl [H1]; · iexact H1
  iintro H1
  ihave H2 := (slotAt_flight d L (4 * cj.val + 2) (by omega)) $$ H2
  iapply (wp_await d L (rows := r2V) (sem := cc1_scratch9.sem) (W := W) (4 * cj.val + 2)) $$ [H2 HO Hw Ho H3 H0 H1 Hp Hv]
  isplitl [H2]; · iexact H2
  isplitl [HO]; · iexact HO
  isplitr; · iexact Hmw
  iintro H2 Hs HO
  rw [wp_pure]; imodintro
  iapply (wp_loop d L (rows := r2V) k1_t4_loop k1_t4_ok _ (offs2 cj) (fun t => t4_body_eq L _ _ _ _ _ _ _ _ _ _ _ _ _ _ _ _ _ _ _ _ _ _ _ _ _ _ _ _ _ cj _ t) trips4
    (fun o => tileT tb fi fw (7168 * cj.val + o)) 2 (4 * cj.val + 2) (fun t => (offs2_at cj t).w) (fun t => (offs2_at cj t).o) (fun t => (offs2_at cj t).r)
    (hT 2)) $$ [H2 HO Hw Ho Hs H3 H0 H1 Hp Hv]
  isplitl [H2]; · iexact H2
  isplitl [Hw]; · iexact Hw
  isplitl [Ho]; · iexact Ho
  iintro H2 Hw Ho
  ihave H2 := (slot_rest d L (sem := cc1_scratch9.sem) (4 * cj.val + 2)) $$ [H2 Hs]; · isplitl [H2] <;> iassumption
  iapply (wp_guard d L (rows := r2V) (sem := cc1_scratch9.sem) (View.set_whole _) credit2 hfi (k1_cond3 cj) (k1_off35 cj) (k1_off35_inb cj) (4 * cj.val + 6)
    (by rw [k1_off35_eq]; exact ⟨rfl, rfl⟩) (cond3_iff cj)) $$ [H2 HO Hw Ho H3 H0 H1 Hp Hv]
  isplitl [H2]; · iexact H2
  iintro H2
  ihave H3 := (slotAt_flight d L (4 * cj.val + 3) (by omega)) $$ H3
  iapply (wp_await d L (rows := r3V) (sem := cc1_scratch10.sem) (W := W) (4 * cj.val + 3)) $$ [H3 HO Hw Ho H0 H1 H2 Hp Hv]
  isplitl [H3]; · iexact H3
  isplitl [HO]; · iexact HO
  isplitr; · iexact Hmw
  iintro H3 Hs HO
  iapply (wp_loop d L (rows := r3V) k1_t5_loop k1_t5_ok _ (offs3 cj) (fun t => t5_body_eq L _ _ _ _ _ _ _ _ _ _ _ _ _ _ _ _ _ _ _ _ _ _ _ _ _ _ _ _ _ cj _ t) trips5
    (fun o => tileT tb fi fw (7168 * cj.val + o)) 3 (4 * cj.val + 3) (fun t => (offs3_at cj t).w) (fun t => (offs3_at cj t).o) (fun t => (offs3_at cj t).r)
    (hT 3)) $$ [H3 HO Hw Ho Hs H0 H1 H2 Hp Hv]
  isplitl [H3]; · iexact H3
  isplitl [Hw]; · iexact Hw
  isplitl [Ho]; · iexact Ho
  iintro H3 Hw Ho
  ihave H3 := (slot_rest d L (sem := cc1_scratch10.sem) (4 * cj.val + 3)) $$ [H3 Hs]; · isplitl [H3] <;> iassumption
  iapply (wp_guard d L (rows := r3V) (sem := cc1_scratch10.sem) (View.set_whole _) credit3 hfi (k1_cond4 cj) (k1_off46 cj) (k1_off46_inb cj) (4 * cj.val + 7)
    (by rw [k1_off46_eq]; exact ⟨rfl, rfl⟩) (cond4_iff cj)) $$ [H3 HO Hw Ho H0 H1 H2 Hp Hv]
  isplitl [H3]; · iexact H3
  iintro H3
  iapply (wp_out d L (O := O) (W := W) (tileT tb fi fw) (7168 * cj.val) (by omega) (off := k1_off47 L cj) (hoff := k1_off47_inb L cj)
    (by rw [k1_off47_eq]; show 702464 * (L 1).val + 351232 * (L 0).val + 7168 * cj.val = _; unfold wid; omega) (sem := cc1_scoped2.sem) rfl (show 0 < outV.view.amount (.dma cc1_scoped2.sem) by decide)) $$ [H0 H1 H2 H3 HO Hw Ho Hp Hv]
  isplitl [Ho]; · iexact Ho
  isplitl [Hp]; · iexact Hp
  isplitl [Hv]; · iexact Hv
  isplitl [HO]; · iexact HO
  isplitr; · iexact Hmw
  iintro Ho Hp Hv HO
  rw [wp_pure]; imodintro
  unfold OutTo
  icases Ho with ⟨%fo', -, Ho⟩
  rw [show 4 * (cj.val + 1) = 4 * cj.val + 4 by omega]
  isplitl [H0]; · iexact H0
  isplitl [H1]; · iexact H1
  isplitl [H2]; · iexact H2
  isplitl [H3]; · iexact H3
  isplitl [Hw]; · iexact Hw
  isplitl [Ho]; · iexists fo'; iexact Ho
  isplitl [Hp]; · rw [show 7168 * (cj.val + 1) = 7168 * cj.val + 7168 by omega]; iexact Hp
  isplitl [Hv]; · iexact Hv
  iexact HO
end

end Cert.Proof
-- ==== Proof.Tile.lean ====
module

public import proofs.«01_k».proof.Proof.Quad

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What a tile is handed and what it hands back -/

/-- The elements of a table that are tile `n`'s. -/
def rowSet (n : ℕ) : Finset S32x196x112.Idx := Finset.univ.filter fun y => (y 0).val = n

theorem mem_rowSet {n : ℕ} {y : S32x196x112.Idx} : y ∈ rowSet n ↔ (y 0).val = n := by simp [rowSet]

/-- Row `n` of a table, by chunk and lane. -/
def rowOf {α : Type} (f : S32x196x112.Idx → α) (n : ℕ) : S196x112.Idx → α :=
  fun y => f (ix3 (⟨n % 32, Nat.mod_lt _ (by decide)⟩ : Fin 32) (y 0) (y 1))

/-- The whole result, by position. -/
def resG (tb : S131072x128.Idx → F .f32) (f3 : S32x196x112.Idx → BitVec 32) (f4 : S32x196x112.Idx → F .f32) : S11239424.Idx → F .f32 :=
  fun y => tileT tb (rowOf f3 ((y 0).val / 351232)) (rowOf f4 ((y 0).val / 351232)) ((y 0).val % 351232)

abbrev tbLoc (d : Dev nD) : Loc nD τ sig := (SparseCore.T d).loc main_v1
abbrev ixLoc (d : Dev nD) : Loc nD τ sig := (SparseCore.T d).loc main_v3
abbrev wLoc (d : Dev nD) : Loc nD τ sig := (SparseCore.T d).loc main_v4
abbrev oLoc (d : Dev nD) : Loc nD τ sig := (SparseCore.T d).loc main_v5

/-- A tile's share of the table. -/
abbrev tq (n : Fin 32) : PosShare TreeShare := Transfers.dealOf fullShare (Finset.univ : Finset (Fin 32)) n

section
variable (d : Dev nD) (tb : S131072x128.Idx → F .f32) (f3 : S32x196x112.Idx → BitVec 32) (f4 : S32x196x112.Idx → F .f32)

/-- What a tile only reads: its share of the table, its rows of the index and weight tables. -/
def Ins (n : Fin 32) : sProp 𝕄 :=
  iprop((tbLoc d ↦{tq n} tb) ∗ (ixLoc d ↦[rowSet n.val]{fullShare} f3) ∗ (wLoc d ↦[rowSet n.val]{fullShare} f4))

/-- A tile's load. -/
def GoP (n : Fin 32) : sProp 𝕄 := iprop(Ins d tb f3 f4 n ∗ ∃ f, oLoc d ↦[seg n.val]{fullShare} f)
/-- What it gives back: its stretch of the result at its target. -/
def TdP (n : Fin 32) : sProp 𝕄 := iprop(Ins d tb f3 f4 n ∗ (oLoc d ↦[seg n.val]{fullShare} resG tb f3 f4))
end

/-! ## A tile's own semaphores and buffers -/

def semF : Fin 7 → SemLoc sig :=
  ![.dma cc1_scoped0.sem, .dma cc1_scoped1.sem, .dma cc1_scratch7.sem, .dma cc1_scratch8.sem, .dma cc1_scratch9.sem, .dma cc1_scratch10.sem, .dma cc1_scoped2.sem]

def bufF : Fin 7 → Ref sig .scVector :=
  ![cc1_scratch0, cc1_scratch1, cc1_scratch2, cc1_scratch3, cc1_scratch4, cc1_scratch5, cc1_scratch6]

theorem bigSep_seven (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl

theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

/-- A product over a set is that over the members a one-to-one function names, and the rest. -/
theorem bigSep_named {I J : Type} [DecidableEq I] [DecidableEq J] [Fintype J] {s : Finset I} {f : J → I} (hi : Function.Injective f) (hs : ∀ j, f j ∈ s) (Φ : I → sProp 𝕄) :
    bigSep s Φ = iprop(bigSep Finset.univ (fun j => Φ (f j)) ∗ bigSep (s \ Finset.univ.image f) Φ) := by
  rw [SparseCore.bigSep_sdiff_split' (t := Finset.univ.image f) (fun x hx => by obtain ⟨j, -, rfl⟩ := Finset.mem_image.mp hx; exact hs j),
    bigSep_image_of_injOn hi.injOn]

section
variable (d : Dev nD) (L : grid1.Coords)

/-- The semaphores of a tile the body does not use. -/
def semRest : sProp 𝕄 :=
  bigSep (ownCells (tV d L) \ Finset.univ.image fun k => ((tV d L, semF k) : GSem nD τ sig)) fun g => semVal g 0

theorem ownSems0_tile :
    (ownSems0 (tV d L) : sProp 𝕄)
      = iprop((semVal (tV d L, SemLoc.dma cc1_scoped0.sem) 0 ∗ semVal (tV d L, SemLoc.dma cc1_scoped1.sem) 0 ∗ semVal (tV d L, SemLoc.dma cc1_scratch7.sem) 0
        ∗ semVal (tV d L, SemLoc.dma cc1_scratch8.sem) 0 ∗ semVal (tV d L, SemLoc.dma cc1_scratch9.sem) 0 ∗ semVal (tV d L, SemLoc.dma cc1_scratch10.sem) 0
        ∗ semVal (tV d L, SemLoc.dma cc1_scoped2.sem) 0) ∗ semRest d L) := by
  have hs : ∀ k, (semF k).isScoped .scVector = true := by unfold semF; decide
  have hi : Function.Injective (semF) := by unfold semF; decide
  unfold SparseCore.Cfg.ownSems0 semRest
  rw [bigSep_named (f := fun k => ((tV d L, semF k) : GSem nD τ sig))
    (fun a b h => hi (congrArg Prod.snd h)) (fun k => mem_ownCells.mpr ⟨rfl, hs k⟩), bigSep_seven]
  rfl

/-- The buffers of a tile the body does not use. -/
def bufRest : sProp 𝕄 :=
  bigSep (ownRefs (τ := τ) (sig := sig) (.scVector (cV L) (jV L)) \ Finset.univ.image fun k => (Proc.scVector (cV L) (jV L)).devRef (bufF k))
    fun b => iprop(∃ f, ((d, b) : Loc nD τ sig) ↦{fullShare} f)

theorem ownBufs_tile :
    (ownBufs (tV d L) : sProp 𝕄)
      = iprop(((∃ f, ixV.view.loc (tV d L) ↦{fullShare} f) ∗ (∃ f, wV.view.loc (tV d L) ↦{fullShare} f) ∗ (∃ f, r0V.view.loc (tV d L) ↦{fullShare} f)
        ∗ (∃ f, r1V.view.loc (tV d L) ↦{fullShare} f) ∗ (∃ f, r2V.view.loc (tV d L) ↦{fullShare} f) ∗ (∃ f, r3V.view.loc (tV d L) ↦{fullShare} f)
        ∗ (∃ f, outV.view.loc (tV d L) ↦{fullShare} f)) ∗ bufRest d L) := by
  have hi : Function.Injective bufF := by unfold bufF; decide
  have ho : ∀ k, ((Proc.scVector (cV L) (jV L)).devRef (bufF k) : DevRef τ sig).owner = .proc (.scVector (cV L) (jV L)) := by
    intro k; fin_cases k <;> rfl
  unfold SparseCore.Cfg.ownBufs bufRest
  rw [bigSep_named (f := fun k => (Proc.scVector (cV L) (jV L)).devRef (bufF k))
    (fun a b h => hi (Proc.devRef_injective _ h)) (fun k => SparseCore.Cfg.mem_ownRefs_of_owner (ho k)), bigSep_seven]
  rfl

/-! ## The tile's rows, as its copies name them -/

abbrev ixH : Memref sig .scVector .hbm S32x196x112 .i32 := Memref.whole main_v3_scv
abbrev wH : Memref sig .scVector .hbm S32x196x112 .f32 := Memref.whole main_v4_scv
abbrev ixPiece : Memref sig .scVector .hbm S196x112 .i32 :=
  (ixH.slice (Rect.unit (s := S32x196x112) (k1_off1 L) S1x196x112.size (k1_off1_inb L)) (fun _ => rfl)).squeeze S196x112 squeezes_S1x196x112_S196x112
abbrev wPiece : Memref sig .scVector .hbm S196x112 .f32 :=
  (wH.slice (Rect.unit (s := S32x196x112) (k1_off1 L) S1x196x112.size (k1_off1_inb L)) (fun _ => rfl)).squeeze S196x112 squeezes_S1x196x112_S196x112

theorem off1_val : k1_off1 L = ![wid L, 0, 0] := by rw [k1_off1_eq]

theorem rowEmb (y : S196x112.Idx) :
    (Rect.unit (s := S32x196x112) (k1_off1 L) S1x196x112.size (k1_off1_inb L)).emb (Shape.reshapeEquiv squeezes_S1x196x112_S196x112.numel_eq y)
      = (ix3 (⟨wid L % 32, Nat.mod_lt _ (by decide)⟩ : Fin 32) (y 0) (y 1) : S32x196x112.Idx) := by
  have hx : Shape.reshapeEquiv squeezes_S1x196x112_S196x112.numel_eq y = (ix3 0 (y 0) (y 1) : S1x196x112.Idx) := by pointwise
  rw [hx]
  have hw := wid_lt L
  funext a
  match a with
  | 0 =>
    refine Fin.ext ?_
    show k1_off1 L 0 + 1 * 0 = wid L % 32
    rw [off1_val, Nat.mod_eq_of_lt hw]; rfl
  | 1 =>
    refine Fin.ext ?_
    show k1_off1 L 1 + 1 * (y 0).val = (y 0).val
    rw [off1_val]; show 0 + 1 * (y 0).val = _; omega
  | 2 =>
    refine Fin.ext ?_
    show k1_off1 L 2 + 1 * (y 1).val = (y 1).val
    rw [off1_val]; show 0 + 1 * (y 1).val = _; omega

theorem read_ixPiece (f : S32x196x112.Idx → BitVec 32) : (ixPiece L).view.read (Elt F) f = rowOf f (wid L) := by
  funext y
  have e : (ixPiece L).view.read (Elt F) f y = f ((Rect.unit (s := S32x196x112) (k1_off1 L) S1x196x112.size (k1_off1_inb L)).emb (Shape.reshapeEquiv squeezes_S1x196x112_S196x112.numel_eq y)) := rfl
  rw [e, rowEmb]; rfl

theorem read_wPiece (f : S32x196x112.Idx → F .f32) : (wPiece L).view.read (Elt F) f = rowOf f (wid L) := by
  funext y
  have e : (wPiece L).view.read (Elt F) f y = f ((Rect.unit (s := S32x196x112) (k1_off1 L) S1x196x112.size (k1_off1_inb L)).emb (Shape.reshapeEquiv squeezes_S1x196x112_S196x112.numel_eq y)) := rfl
  rw [e, rowEmb]; rfl

theorem rowSet_image :
    (Finset.univ.image fun y : S196x112.Idx =>
      (Rect.unit (s := S32x196x112) (k1_off1 L) S1x196x112.size (k1_off1_inb L)).emb (Shape.reshapeEquiv squeezes_S1x196x112_S196x112.numel_eq y)) = rowSet (wid L) := by
  have hw := wid_lt L
  ext y
  rw [Finset.mem_image, mem_rowSet]
  constructor
  · rintro ⟨x, -, rfl⟩
    rw [rowEmb]; show wid L % 32 = _; exact Nat.mod_eq_of_lt hw
  · intro h
    refine ⟨ix2 (y 1) (y 2), Finset.mem_univ _, ?_⟩
    rw [rowEmb, eq_ix3 y]
    congr 1
    exact Fin.ext ((Nat.mod_eq_of_lt hw).trans h.symm)

theorem set_ixPiece : (ixPiece L).view.set = rowSet (wid L) := by
  rw [← rowSet_image]; ext y
  constructor
  · intro h; obtain ⟨x, -, hx⟩ := Finset.mem_map.mp h; exact Finset.mem_image.mpr ⟨x, Finset.mem_univ _, hx⟩
  · intro h; obtain ⟨x, -, hx⟩ := Finset.mem_image.mp h; exact Finset.mem_map.mpr ⟨x, Finset.mem_univ _, hx⟩
theorem set_wPiece : (wPiece L).view.set = rowSet (wid L) := by
  rw [← rowSet_image]; ext y
  constructor
  · intro h; obtain ⟨x, -, hx⟩ := Finset.mem_map.mp h; exact Finset.mem_image.mpr ⟨x, Finset.mem_univ _, hx⟩
  · intro h; obtain ⟨x, -, hx⟩ := Finset.mem_image.mp h; exact Finset.mem_map.mpr ⟨x, Finset.mem_univ _, hx⟩

/-- The number of a tile as one of the thirty-two. -/
abbrev widF : Fin 32 := ⟨wid L, wid_lt L⟩

variable {tb : S131072x128.Idx → F .f32} {f3 : S32x196x112.Idx → BitVec 32} {f4 : S32x196x112.Idx → F .f32}

theorem part_done :
    Part d L (tileT tb (rowOf f3 (wid L)) (rowOf f4 (wid L))) (7168 * 49) ⊢ (oLoc d ↦[seg (wid L)]{fullShare} resG tb f3 f4 : sProp 𝕄) := by
  unfold Part
  iintro ⟨%f, %hf, H⟩
  iapply (Entails.of_eq (pointsTo_congr (ℓ := oLoc d) (q := fullShare) (f := f) (g := resG tb f3 f4) (I := seg (wid L)) (fun y hy => by
    obtain ⟨h1, h2⟩ := mem_seg.mp hy
    rw [hf y h1 (by omega)]
    unfold resG
    rw [show (y 0).val / 351232 = wid L by omega, show (y 0).val % 351232 = (y 0).val - 351232 * wid L by omega])))
  iexact H

/-- The quarters of a tile's share of the table, and of its row numbers. -/
abbrev qtL : Fin 4 → PosShare TreeShare := Transfers.dealOf (tq (widF L)) Finset.univ
abbrev qiL : Fin 4 → PosShare TreeShare := Transfers.dealOf fullShare Finset.univ

theorem four_nonempty : (Finset.univ : Finset (Fin 4)).Nonempty := ⟨0, Finset.mem_univ _⟩

theorem deal_tab : (tbLoc d ↦{tq (widF L)} tb : sProp 𝕄)
    = iprop((tabV.view.loc (tV d L) ↦{qtL L 0} tb) ∗ (tabV.view.loc (tV d L) ↦{qtL L 1} tb) ∗ (tabV.view.loc (tV d L) ↦{qtL L 2} tb) ∗ (tabV.view.loc (tV d L) ↦{qtL L 3} tb)) :=
  (Transfers.pointsTo_deal (Finset.univ : Finset (Fin 4)) four_nonempty (tq (widF L))).trans (bigSep_four _)

theorem deal_ix (fi : S196x112.Idx → BitVec 32) : (ixV.view.loc (tV d L) ↦{fullShare} fi : sProp 𝕄)
    = iprop((ixV.view.loc (tV d L) ↦{qiL 0} fi) ∗ (ixV.view.loc (tV d L) ↦{qiL 1} fi) ∗ (ixV.view.loc (tV d L) ↦{qiL 2} fi) ∗ (ixV.view.loc (tV d L) ↦{qiL 3} fi)) :=
  (Transfers.pointsTo_deal (Finset.univ : Finset (Fin 4)) four_nonempty fullShare).trans (bigSep_four _)

/-- Before the first chunk the slot's gather is in flight. -/
theorem slotAt_of_flight {fi : S196x112.Idx → BitVec 32} {rows : Memref sig .scVector .vmem S112x128 .f32} {sem : DmaSem sig} {qt qi : PosShare TreeShare} (ci : ℕ) (h : ci < 196) :
    SlotFlight d L tb fi rows sem qt qi ci ⊢ SlotAt d L tb fi rows sem qt qi ci := by unfold SlotAt; rw [if_pos h]
/-- After the last chunk the slot is at rest. -/
theorem idle_of_slotAt {fi : S196x112.Idx → BitVec 32} {rows : Memref sig .scVector .vmem S112x128 .f32} {sem : DmaSem sig} {qt qi : PosShare TreeShare} (ci : ℕ) (h : ¬ ci < 196) :
    SlotAt d L tb fi rows sem qt qi ci ⊢ SlotIdle d L tb fi rows sem qt qi := by unfold SlotAt; rw [if_neg h]

set_option maxRecDepth 16384 in
set_option maxHeartbeats 4000000 in
/-- The task of a tile: the two fetches, the four first gathers, the forty-nine trips. -/
theorem tile_body (hF : (K (F := F)).Facts) (hfi : ∀ y, (f3 y).toNat < 131072) (O : CellTallies nD τ sig (HIx 1)) (W : Waits sig (HIx 1)) (hO : ∀ g, O g none = 0) :
    iprop(levAts (K (F := F)).L (K (F := F)).lev ∗ emp ∗ GoP d tb f3 f4 (widF L)
        ∗ scopedBufs (tV d L) ∗ scopedSems0 (tV d L) ∗ owes (tV d L) O W)
      ⊢ (wp frame (wpE (defs₀ (F := F)) 𝒱₀ (tV d L) none) Set.univ
          (cc1__sc_interp_body (F := F) L tabV (Memref.isWhole_whole _) ixH (Memref.isWhole_whole _) wH (Memref.isWhole_whole _)
            outH (Memref.isWhole_whole _) ixV (Memref.isWhole_whole _) wV (Memref.isWhole_whole _) r0V (Memref.isWhole_whole _) r1V (Memref.isWhole_whole _)
            r2V (Memref.isWhole_whole _) r3V (Memref.isWhole_whole _) outV (Memref.isWhole_whole _) cc1_scratch7 cc1_scratch8 cc1_scratch9 cc1_scratch10
            cc1_scoped0 cc1_scoped1 cc1_scoped2)
          fun _ => iprop(TdP d tb f3 f4 (widF L)
            ∗ scopedBufs (tV d L) ∗ scopedSems0 (tV d L) ∗ ∃ W', ⌜∀ p ∈ W', p ∈ W ∨ p.2 = none⌝ ∗ owes (tV d L) O W') : sProp 𝕄) := by
  rw [cc1__sc_interp_body_eq_skeleton]; unfold cc1__sc_interp_body_skel
  rw [k1_part90_eq_skeleton]; unfold k1_part90_skel
  rw [(K (F := F)).scopedBufs_V hF d (cV L) (jV L), SparseCore.Cfg.scopedSems0_V (Val := Elt F) d (cV L) (jV L), ownSems0_tile, ownBufs_tile]
  unfold GoP TdP Ins
  have hrow : ∀ y, (rowOf f3 (wid L) y).toNat < 131072 := fun y => hfi _
  have h4 : (Finset.univ : Finset (Fin 4)).Nonempty := ⟨0, Finset.mem_univ _⟩
  iintro ⟨#Hlv, -, ⟨⟨Ht, Hi, Hw⟩, %fo, Ho⟩, ⟨⟨⟨%b0, Hb0⟩, ⟨%b1, Hb1⟩, Hr0, Hr1, Hr2, Hr3, Hov⟩, Hbr⟩, ⟨⟨Hc0, Hc1, Hs0, Hs1, Hs2, Hs3, Hc2⟩, Hsr⟩, HO⟩
  ihave Hmw := (show levAts (K (F := F)).L (K (F := F)).lev ⊢ Transfers.MayWaits (tV d L) (default : HIx 1) O from
    (K (F := F)).mayWaits_none (thr := tV d L) hO) $$ Hlv
  ihave HO := (show owes (tV d L) O W ⊢ Owes d L O W by
    unfold Owes; iintro H; iexists W; isplitr
    · ipureintro; exact fun p hp => .inl hp
    · iexact H) $$ HO
  ihave Hi := (Entails.of_eq (show (ixLoc d ↦[rowSet (wid L)]{fullShare} f3 : sProp 𝕄) = (ixPiece L).view.loc (tV d L) ↦[(ixPiece L).view.set]{fullShare} f3 by rw [set_ixPiece])) $$ Hi
  ihave Hw := (Entails.of_eq (show (wLoc d ↦[rowSet (wid L)]{fullShare} f4 : sProp 𝕄) = (wPiece L).view.loc (tV d L) ↦[(wPiece L).view.set]{fullShare} f4 by rw [set_wPiece])) $$ Hw
  rw [wp_bind]
  iapply (wp_copy d L (O := O) (W := W) (src := ixPiece L) (dst := ixV) (fs := f3) (fd := b0) (Sd := Finset.univ) (sem := cc1_scoped0.sem) rfl (show 0 < ixV.view.amount (.dma cc1_scoped0.sem) by decide) (Finset.subset_univ _)) $$ [Ht Hi Hw Ho Hb0 Hb1 Hr0 Hr1 Hr2 Hr3 Hov Hbr Hc0 Hc1 Hs0 Hs1 Hs2 Hs3 Hc2 Hsr HO]
  isplitl [Hi]; · iexact Hi
  isplitl [Hb0]; · iexact Hb0
  isplitl [Hc0]; · iexact Hc0
  isplitl [HO]; · iexact HO
  isplitr; · iexact Hmw
  iintro Hi Hb0 Hc0 HO
  iapply (wp_copy d L (O := O) (W := W) (src := wPiece L) (dst := wV) (fs := f4) (fd := b1) (Sd := Finset.univ) (sem := cc1_scoped1.sem) rfl (show 0 < wV.view.amount (.dma cc1_scoped1.sem) by decide) (Finset.subset_univ _)) $$ [Ht Hi Hw Ho Hb0 Hb1 Hr0 Hr1 Hr2 Hr3 Hov Hbr Hc0 Hc1 Hs0 Hs1 Hs2 Hs3 Hc2 Hsr HO]
  isplitl [Hw]; · iexact Hw
  isplitl [Hb1]; · iexact Hb1
  isplitl [Hc1]; · iexact Hc1
  isplitl [HO]; · iexact HO
  isplitr; · iexact Hmw
  iintro Hw Hb1 Hc1 HO
  rw [View.write_whole_univ, View.write_whole_univ, read_ixPiece, read_wPiece]
  ihave Ht := (Entails.of_eq (deal_tab (F := F) d L (tb := tb))) $$ Ht
  ihave Hx := (Entails.of_eq (deal_ix (F := F) d L (rowOf f3 (wid L)))) $$ Hb0
  icases Ht with ⟨Ht0, Ht1, Ht2, Ht3⟩
  icases Hx with ⟨Hx0, Hx1, Hx2, Hx3⟩
  iapply (wp_issue (tb := tb) (fi := rowOf f3 (wid L)) (qt := qtL L 0) (qi := qiL 0) d L (rows := r0V) (sem := cc1_scratch7.sem) (View.set_whole _) credit0 hrow ![0, 0] inb_S196x112_S1x112_0_0 0 ⟨rfl, rfl⟩) $$ [Hi Hw Ho Hb1 Hov Hbr Hc0 Hc1 Hc2 Hsr HO Hr0 Ht0 Hx0 Hs0 Hr1 Ht1 Hx1 Hs1 Hr2 Ht2 Hx2 Hs2 Hr3 Ht3 Hx3 Hs3]
  isplitl [Hr0 Ht0 Hx0 Hs0]
  · unfold SlotIdle
    isplitl [Hr0]; · iexact Hr0
    isplitl [Ht0 Hx0]
    · isplitl [Ht0]; · iexact Ht0
      iexact Hx0
    iexact Hs0
  iintro Hf0
  ihave Hf0 := (slotAt_of_flight (F := F) d L 0 (by decide)) $$ Hf0
  rw [wp_pure]; imodintro
  iapply (wp_issue (tb := tb) (fi := rowOf f3 (wid L)) (qt := qtL L 1) (qi := qiL 1) d L (rows := r1V) (sem := cc1_scratch8.sem) (View.set_whole _) credit1 hrow ![1, 0] inb_S196x112_S1x112_1_0 1 ⟨rfl, rfl⟩) $$ [Hi Hw Ho Hb1 Hov Hbr Hc0 Hc1 Hc2 Hsr HO Hr1 Ht1 Hx1 Hs1 Hr2 Ht2 Hx2 Hs2 Hr3 Ht3 Hx3 Hs3 Hf0]
  isplitl [Hr1 Ht1 Hx1 Hs1]
  · unfold SlotIdle
    isplitl [Hr1]; · iexact Hr1
    isplitl [Ht1 Hx1]
    · isplitl [Ht1]; · iexact Ht1
      iexact Hx1
    iexact Hs1
  iintro Hf1
  ihave Hf1 := (slotAt_of_flight (F := F) d L 1 (by decide)) $$ Hf1
  iapply (wp_issue (tb := tb) (fi := rowOf f3 (wid L)) (qt := qtL L 2) (qi := qiL 2) d L (rows := r2V) (sem := cc1_scratch9.sem) (View.set_whole _) credit2 hrow ![2, 0] inb_S196x112_S1x112_2_0 2 ⟨rfl, rfl⟩) $$ [Hi Hw Ho Hb1 Hov Hbr Hc0 Hc1 Hc2 Hsr HO Hr2 Ht2 Hx2 Hs2 Hr3 Ht3 Hx3 Hs3 Hf0 Hf1]
  isplitl [Hr2 Ht2 Hx2 Hs2]
  · unfold SlotIdle
    isplitl [Hr2]; · iexact Hr2
    isplitl [Ht2 Hx2]
    · isplitl [Ht2]; · iexact Ht2
      iexact Hx2
    iexact Hs2
  iintro Hf2
  ihave Hf2 := (slotAt_of_flight (F := F) d L 2 (by decide)) $$ Hf2
  iapply (wp_issue (tb := tb) (fi := rowOf f3 (wid L)) (qt := qtL L 3) (qi := qiL 3) d L (rows := r3V) (sem := cc1_scratch10.sem) (View.set_whole _) credit3 hrow ![3, 0] inb_S196x112_S1x112_3_0 3 ⟨rfl, rfl⟩) $$ [Hi Hw Ho Hb1 Hov Hbr Hc0 Hc1 Hc2 Hsr HO Hr3 Ht3 Hx3 Hs3 Hf0 Hf1 Hf2]
  isplitl [Hr3 Ht3 Hx3 Hs3]
  · unfold SlotIdle
    isplitl [Hr3]; · iexact Hr3
    isplitl [Ht3 Hx3]
    · isplitl [Ht3]; · iexact Ht3
      iexact Hx3
    iexact Hs3
  iintro Hf3
  ihave Hf3 := (slotAt_of_flight (F := F) d L 3 (by decide)) $$ Hf3
  iapply (Scf.wp_for_bind frame (wpE (defs₀ (F := F)) 𝒱₀ (tV d L) none) Set.univ k1_t1_loop.lb k1_t1_loop.ub k1_t1_loop.st k1_t1_ok ⟨⟩ _
    (fun t _ => iprop(QuadInv d L tb (rowOf f3 (wid L)) (rowOf f4 (wid L)) (qtL L) qiL O W t ∗ Transfers.MayWaits (tV d L) (default : HIx 1) O))
    (by
      intro t acc
      obtain ⟨⟩ := acc
      iintro ⟨H, #Hmw⟩
      iapply (wp_frame_r frame (wpE (defs₀ (F := F)) 𝒱₀ (tV d L) none) Set.univ)
      isplitl [H]
      · iapply (wp_quad d L hrow t)
        isplitl [H]; · iexact H
        iexact Hmw
      · iexact Hmw)) $$ [Hf0 Hf1 Hf2 Hf3 Hb1 Hov Ho Hc2 HO]
  · isplitl [Hf0 Hf1 Hf2 Hf3 Hb1 Hov Ho Hc2 HO]; swap; · iexact Hmw
    unfold QuadInv
    isplitl [Hf0]; · iexact Hf0
    isplitl [Hf1]; · iexact Hf1
    isplitl [Hf2]; · iexact Hf2
    isplitl [Hf3]; · iexact Hf3
    isplitl [Hb1]; · iexact Hb1
    isplitl [Hov]; · iexact Hov
    isplitl [Ho]
    · unfold Part; iexists fo; isplitr
      · ipureintro; intro y h1 h2; exact absurd h2 (by omega)
      · iexact Ho
    isplitl [Hc2]; · iexact Hc2
    iexact HO
  iintro %acc ⟨HQ, -⟩
  rw [show Scf.trips k1_t1_loop.lb k1_t1_loop.ub k1_t1_loop.st = 49 from trips1]
  unfold QuadInv
  icases HQ with ⟨Hf0, Hf1, Hf2, Hf3, Hb1, Hov, Ho, Hc2, HO⟩
  ihave Ho := (part_done (F := F) d L) $$ Ho
  ihave Hf0 := (idle_of_slotAt (F := F) d L _ (by decide)) $$ Hf0
  unfold SlotIdle
  icases Hf0 with ⟨Hr0, ⟨Ht0, Hx0⟩, Hs0⟩
  ihave Hf1 := (idle_of_slotAt (F := F) d L _ (by decide)) $$ Hf1
  unfold SlotIdle
  icases Hf1 with ⟨Hr1, ⟨Ht1, Hx1⟩, Hs1⟩
  ihave Hf2 := (idle_of_slotAt (F := F) d L _ (by decide)) $$ Hf2
  unfold SlotIdle
  icases Hf2 with ⟨Hr2, ⟨Ht2, Hx2⟩, Hs2⟩
  ihave Hf3 := (idle_of_slotAt (F := F) d L _ (by decide)) $$ Hf3
  unfold SlotIdle
  icases Hf3 with ⟨Hr3, ⟨Ht3, Hx3⟩, Hs3⟩
  ihave Ht := (Entails.of_eq (deal_tab (F := F) d L (tb := tb)).symm) $$ [Ht0 Ht1 Ht2 Ht3]
  · isplitl [Ht0]; · iexact Ht0
    isplitl [Ht1]; · iexact Ht1
    isplitl [Ht2]; · iexact Ht2
    iexact Ht3
  ihave Hx := (Entails.of_eq (deal_ix (F := F) d L (rowOf f3 (wid L))).symm) $$ [Hx0 Hx1 Hx2 Hx3]
  · isplitl [Hx0]; · iexact Hx0
    isplitl [Hx1]; · iexact Hx1
    isplitl [Hx2]; · iexact Hx2
    iexact Hx3
  ihave Hi := (Entails.of_eq (show ((ixPiece L).view.loc (tV d L) ↦[(ixPiece L).view.set]{fullShare} f3 : sProp 𝕄) = ixLoc d ↦[rowSet (wid L)]{fullShare} f3 by rw [set_ixPiece])) $$ Hi
  ihave Hw := (Entails.of_eq (show ((wPiece L).view.loc (tV d L) ↦[(wPiece L).view.set]{fullShare} f4 : sProp 𝕄) = wLoc d ↦[rowSet (wid L)]{fullShare} f4 by rw [set_wPiece])) $$ Hw
  rw [wp_pure]; imodintro
  isplitl [Ht Hi Hw Ho]
  · isplitl [Ht Hi Hw]
    · isplitl [Ht]; · iexact Ht
      isplitl [Hi]; · iexact Hi
      iexact Hw
    iexact Ho
  isplitl [Hx Hb1 Hr0 Hr1 Hr2 Hr3 Hov Hbr]
  · isplitr [Hbr]; swap; · iexact Hbr
    isplitl [Hx]; · iexists (rowOf f3 (wid L)); iexact Hx
    isplitl [Hb1]; · iexists (rowOf f4 (wid L)); iexact Hb1
    isplitl [Hr0]; · iexact Hr0
    isplitl [Hr1]; · iexact Hr1
    isplitl [Hr2]; · iexact Hr2
    isplitl [Hr3]; · iexact Hr3
    iexact Hov
  isplitl [Hc0 Hc1 Hc2 Hs0 Hs1 Hs2 Hs3 Hsr]
  · isplitr [Hsr]; swap; · iexact Hsr
    isplitl [Hc0]; · iexact Hc0
    isplitl [Hc1]; · iexact Hc1
    isplitl [Hs0]; · iexact Hs0
    isplitl [Hs1]; · iexact Hs1
    isplitl [Hs2]; · iexact Hs2
    isplitl [Hs3]; · iexact Hs3
    iexact Hc2
  ihave HO := (show Owes d L O W ⊢ iprop(∃ W', ⌜∀ p ∈ W', p ∈ W ∨ p.2 = none⌝ ∗ owes (tV d L) O W') by unfold Owes; exact .refl) $$ HO
  iexact HO
end

end Cert.Proof
-- ==== Proof.Deal.lean ====
module

public import proofs.«01_k».proof.Proof.Tile

@[expose] public section

noncomputable section

namespace Cert.Proof

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The thirty-two tiles -/

/-- Tile `i` of SparseCore `c`, by number. -/
abbrev wN (c : Fin 2) (i : Fin 16) : Fin 32 := ⟨2 * i.val + c.val, by omega⟩

theorem bigSep_tiles (Φ : Fin 32 → sProp 𝕄) :
    bigSep Finset.univ Φ = bigSep Finset.univ fun c : Fin 2 => bigSep Finset.univ fun i : Fin 16 => Φ (wN c i) := by
  rw [bigSep_univ_equiv (finProdFinEquiv : Fin 16 × Fin 2 ≃ Fin 32) Φ, bigSep_univ_prod, BI.bigSep_univ_comm]
  refine bigSep_congr fun c _ => bigSep_congr fun i _ => congrArg Φ (Fin.ext ?_)
  show c.val + 2 * i.val = 2 * i.val + c.val
  omega

theorem rows_disjoint : ∀ n ∈ (Finset.univ : Finset (Fin 32)), ∀ n' ∈ (Finset.univ : Finset (Fin 32)), n ≠ n' → Disjoint (rowSet n.val) (rowSet n'.val) := by
  intro n _ n' _ h
  refine Finset.disjoint_left.mpr fun y hy hy' => h (Fin.ext ?_)
  rw [← mem_rowSet.mp hy, mem_rowSet.mp hy']

theorem rows_cover : (Finset.univ : Finset (Fin 32)).biUnion (fun n => rowSet n.val) = Finset.univ := by
  ext y
  simp only [Finset.mem_biUnion, Finset.mem_univ, true_and, iff_true]
  exact ⟨y 0, mem_rowSet.mpr rfl⟩

theorem segs_disjoint : ∀ n ∈ (Finset.univ : Finset (Fin 32)), ∀ n' ∈ (Finset.univ : Finset (Fin 32)), n ≠ n' → Disjoint (seg n.val) (seg n'.val) := by
  intro n _ n' _ h
  refine Finset.disjoint_left.mpr fun y hy hy' => h (Fin.ext ?_)
  have h1 := mem_seg.mp hy
  have h2 := mem_seg.mp hy'
  omega

theorem segs_cover : (Finset.univ : Finset (Fin 32)).biUnion (fun n => seg n.val) = Finset.univ := by
  ext y
  simp only [Finset.mem_biUnion, Finset.mem_univ, true_and, iff_true]
  have h : (y 0).val < 11239424 := (y 0).isLt
  exact ⟨⟨(y 0).val / 351232, by omega⟩, mem_seg.mpr ⟨by show 351232 * ((y 0).val / 351232) ≤ _; omega, by show _ < 351232 * ((y 0).val / 351232) + 351232; omega⟩⟩

section
variable (d : Dev nD) (tb : S131072x128.Idx → F .f32) (f3 : S32x196x112.Idx → BitVec 32) (f4 : S32x196x112.Idx → F .f32)

theorem tab_deal : (tbLoc d ↦{fullShare} tb : sProp 𝕄) = bigSep Finset.univ fun n : Fin 32 => tbLoc d ↦{tq n} tb :=
  Transfers.pointsTo_deal (Finset.univ : Finset (Fin 32)) ⟨0, Finset.mem_univ _⟩ fullShare
theorem ix_deal : (ixLoc d ↦{fullShare} f3 : sProp 𝕄) = bigSep Finset.univ fun n : Fin 32 => ixLoc d ↦[rowSet n.val]{fullShare} f3 := by
  rw [← pointsTo_biUnion Finset.univ (ℓ := ixLoc d) (fun n : Fin 32 => rowSet n.val) rows_disjoint, rows_cover]; try rfl
theorem w_deal : (wLoc d ↦{fullShare} f4 : sProp 𝕄) = bigSep Finset.univ fun n : Fin 32 => wLoc d ↦[rowSet n.val]{fullShare} f4 := by
  rw [← pointsTo_biUnion Finset.univ (ℓ := wLoc d) (fun n : Fin 32 => rowSet n.val) rows_disjoint, rows_cover]; try rfl
theorem o_deal (fo : S11239424.Idx → F .f32) : (oLoc d ↦{fullShare} fo : sProp 𝕄) = bigSep Finset.univ fun n : Fin 32 => oLoc d ↦[seg n.val]{fullShare} fo := by
  rw [← pointsTo_biUnion Finset.univ (ℓ := oLoc d) (fun n : Fin 32 => seg n.val) segs_disjoint, segs_cover]; try rfl

theorem ins_all : bigSep Finset.univ (Ins d tb f3 f4)
    = (iprop((tbLoc d ↦{fullShare} tb) ∗ (ixLoc d ↦{fullShare} f3) ∗ (wLoc d ↦{fullShare} f4)) : sProp 𝕄) := by
  rw [tab_deal, ix_deal, w_deal, ← bigSep_sep', ← bigSep_sep']; rfl

/-- The operands dealt out to the tiles. -/
theorem deal_out (fo : S11239424.Idx → F .f32) :
    iprop((tbLoc d ↦{fullShare} tb) ∗ (ixLoc d ↦{fullShare} f3) ∗ (wLoc d ↦{fullShare} f4) ∗ (oLoc d ↦{fullShare} fo))
      ⊢ (bigSep Finset.univ fun c : Fin 2 => bigSep Finset.univ fun i : Fin 16 => GoP d tb f3 f4 (wN c i) : sProp 𝕄) := by
  rw [← bigSep_tiles (GoP d tb f3 f4)]
  unfold GoP
  rw [bigSep_sep', ins_all, o_deal d fo]
  iintro ⟨Ht, Hi, Hw, Ho⟩
  isplitl [Ht Hi Hw]
  · isplitl [Ht]; · iexact Ht
    isplitl [Hi] <;> iassumption
  · iapply (show bigSep Finset.univ (fun n : Fin 32 => (oLoc d ↦[seg n.val]{fullShare} fo : sProp 𝕄)) ⊢ bigSep Finset.univ (fun n : Fin 32 => iprop(∃ f, oLoc d ↦[seg n.val]{fullShare} f)) from
      bigSep_mono fun n _ => (show (oLoc d ↦[seg n.val]{fullShare} fo : sProp 𝕄) ⊢ iprop(∃ f, oLoc d ↦[seg n.val]{fullShare} f) by iintro H; iexists fo; iexact H))
    iexact Ho

/-- What the tiles give back, gathered. -/
theorem gather_in :
    (bigSep Finset.univ fun c : Fin 2 => bigSep Finset.univ fun i : Fin 16 => TdP d tb f3 f4 (wN c i) : sProp 𝕄)
      = iprop(((tbLoc d ↦{fullShare} tb) ∗ (ixLoc d ↦{fullShare} f3) ∗ (wLoc d ↦{fullShare} f4)) ∗ (oLoc d ↦{fullShare} resG tb f3 f4)) := by
  rw [← bigSep_tiles (TdP d tb f3 f4)]
  unfold TdP
  rw [bigSep_sep', ins_all, o_deal]
end

/-! ## What the handshakes carry -/

section
variable (tb : Dev nD → S131072x128.Idx → F .f32) (f3 : Dev nD → S32x196x112.Idx → BitVec 32) (f4 : Dev nD → S32x196x112.Idx → F .f32)

/-- What the tiles of SparseCore `c` are handed, and what they give back. -/
abbrev coreGo (d : Dev nD) (c : Fin 2) : sProp 𝕄 := bigSep Finset.univ fun i : Fin 16 => GoP d (tb d) (f3 d) (f4 d) (wN c i)
abbrev coreTd (d : Dev nD) (c : Fin 2) : sProp 𝕄 := bigSep Finset.univ fun i : Fin 16 => TdP d (tb d) (f3 d) (f4 d) (wN c i)

instance goP_storable (d : Dev nD) (t : S131072x128.Idx → F .f32) (a : S32x196x112.Idx → BitVec 32) (b : S32x196x112.Idx → F .f32) (n : Fin 32) :
    BI.Storable (upEmb : UEmb _ 𝕄) (GoP d t a b n) := by unfold GoP Ins; infer_instance
instance tdP_storable (d : Dev nD) (t : S131072x128.Idx → F .f32) (a : S32x196x112.Idx → BitVec 32) (b : S32x196x112.Idx → F .f32) (n : Fin 32) :
    BI.Storable (upEmb : UEmb _ 𝕄) (TdP d t a b n) := by unfold TdP Ins; infer_instance

/-- The call takes and brings back, for each SparseCore, what its tiles do. -/
def P : (K (F := F)).Pay (nD := nD) (Val := Elt F) (Name := ℕ) (U := UU) where
  st := fun q d c => match q with | 0 => coreGo tb f3 f4 d (Fin.cast nCore_zero c)
  dn := fun q d c => match q with | 0 => coreTd tb f3 f4 d (Fin.cast nCore_zero c)
  go := fun q d c i => match q with | 0 => GoP d (tb d) (f3 d) (f4 d) (wN (Fin.cast nCore_zero c) (Fin.cast nSub_zero i))
  td := fun q d c i => match q with | 0 => TdP d (tb d) (f3 d) (f4 d) (wN (Fin.cast nCore_zero c) (Fin.cast nSub_zero i))
  x := fun _ _ => iprop(emp)

instance P_storable : (P (F := F) tb f3 f4).IsStorable where
  st q d c := match q with
    | 0 => (inferInstance : BI.Storable (upEmb : UEmb _ 𝕄) (coreGo tb f3 f4 d (Fin.cast nCore_zero c)))
  dn q d c := match q with
    | 0 => (inferInstance : BI.Storable (upEmb : UEmb _ 𝕄) (coreTd tb f3 f4 d (Fin.cast nCore_zero c)))
  go q d c i := match q with
    | 0 => (inferInstance : BI.Storable (upEmb : UEmb _ 𝕄) (GoP d (tb d) (f3 d) (f4 d) (wN (Fin.cast nCore_zero c) (Fin.cast nSub_zero i))))
  td q d c i := match q with
    | 0 => (inferInstance : BI.Storable (upEmb : UEmb _ 𝕄) (TdP d (tb d) (f3 d) (f4 d) (wN (Fin.cast nCore_zero c) (Fin.cast nSub_zero i))))

/-! ## The obligation of a tile -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_interp_body (coordsV c s) tabV (Memref.isWhole_whole _) ixH (Memref.isWhole_whole _) wH (Memref.isWhole_whole _)
            outH (Memref.isWhole_whole _) ixV (Memref.isWhole_whole _) wV (Memref.isWhole_whole _) r0V (Memref.isWhole_whole _) r1V (Memref.isWhole_whole _)
            r2V (Memref.isWhole_whole _) r3V (Memref.isWhole_whole _) outV (Memref.isWhole_whole _) cc1_scratch7 cc1_scratch8 cc1_scratch9 cc1_scratch10
            cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable {f3} in
set_option maxRecDepth 16384 in
theorem tileObl (hF : (K (F := F)).Facts) (hfi : ∀ d y, (f3 d y).toNat < 131072) : (K (F := F)).TileObl (D (F := F)) 𝒱 (P tb f3 f4) v₀ 0 := by
  intro d c i O W hO _ _
  simp only [show (P (F := F) tb f3 f4).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (hfi d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P tb f3 f4) 0 := by
  intro d c
  show coreGo tb f3 f4 d (Fin.cast nCore_zero c) ⊢ |={Set.univ}=> iprop(
      (bigSep Finset.univ fun i : Fin ((K (F := F)).nSub 0) => GoP d (tb d) (f3 d) (f4 d) (wN (Fin.cast nCore_zero c) (Fin.cast nSub_zero i)))
      ∗ ((bigSep Finset.univ fun i : Fin ((K (F := F)).nSub 0) => TdP d (tb d) (f3 d) (f4 d) (wN (Fin.cast nCore_zero c) (Fin.cast nSub_zero i)))
          -∗ coreTd tb f3 f4 d (Fin.cast nCore_zero c)))
  rw [bigSep_tasks (F := F) (fun i => GoP d (tb d) (f3 d) (f4 d) (wN (Fin.cast nCore_zero c) i)),
    bigSep_tasks (F := F) (fun i => TdP d (tb d) (f3 d) (f4 d) (wN (Fin.cast nCore_zero c) i))]
  iintro H; imodintro
  isplitl [H]; · iexact H
  iintro H; iexact H

theorem st0_eq (d : Dev nD) : (bigSep Finset.univ fun c : Fin ((K (F := F)).nCore 0) => (P tb f3 f4).st 0 d c) = bigSep Finset.univ (coreGo tb f3 f4 d) :=
  bigSep_cores (coreGo tb f3 f4 d)
theorem dn0_eq (d : Dev nD) : (bigSep Finset.univ fun c : Fin ((K (F := F)).nCore 0) => (P tb f3 f4).dn 0 d c) = bigSep Finset.univ (coreTd tb f3 f4 d) :=
  bigSep_cores (coreTd tb f3 f4 d)
end

end Cert.Proof
-- ==== Proof.Main.lean ====
module

public import proofs.«01_k».proof.Proof.Region
public import proofs.«01_k».proof.Proof.Deal
public import Idealize.ShloMosaic.Lib.SparseCore.Quiescent
public import Idealize.ShloMosaic.Lib.StableHlo.Run

@[expose] public section

noncomputable section

namespace Cert.Proof

open Cert.KernelIdeal Cert.KernelIdeal.Gen
open Idealize.ShloMosaic
open Idealize.ShloMosaic.SparseCore.Cfg (HIx)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-! ## One host operation on two buffers -/

/-- Go on after a step whose own result is known. -/
theorem wp_then {α : Type} {thr : Thread nD τ} {p : Prog (TpuEff nD τ sig (Elt F) (SparseCore.Sig (ΛP (F := F)) 1) thr.2) α} {A B : sProp 𝕄} {Q : α → sProp 𝕄}
    (h : A ⊢ wp frame (wpE ((K (F := F)).defs D) 𝒱 thr none) Set.univ p fun _ => B) :
    iprop(A ∗ (B -∗ ∀ a, Q a)) ⊢ wp frame (wpE ((K (F := F)).defs D) 𝒱 thr none) Set.univ p Q := by
  iintro ⟨HA, Hk⟩
  ihave H := h $$ HA
  iapply (wp_wand_r frame (wpE ((K (F := F)).defs D) 𝒱 thr none) Set.univ (Q := fun _ => B))
  isplitl [H]; · iexact H
  iintro %a HB
  ihave H := Hk $$ HB
  ispecialize H $$ %a
  iexact H

/-- A host operation that reads `x` and writes `y`: `y` holds what it computes of `x`. -/
theorem wp_two (d : Dev nD) (x y : Ref sig .tc) (hxy : x ≠ y) (op : HloOp τ sig (Elt F)) (hb : op.bufs = {Proc.devRef .tc x, Proc.devRef .tc y}) (hf : op.fresh = ∅)
    (hp : (SparseCore.T d : Thread nD τ).2.kind.runsHlo = true)
    (m : (ℓ : Loc nD τ sig) → Buf (Elt F) ℓ)
    (a : Buf (Elt F) ((SparseCore.T d : Thread nD τ).loc x)) (b c : Buf (Elt F) ((SparseCore.T d : Thread nD τ).loc y))
    (hr : ∀ V : Valuation τ sig (Elt F), V (Proc.devRef .tc x) = a → op.result V (Proc.devRef .tc x) = a ∧ op.result V (Proc.devRef .tc y) = c) :
    (iprop(boundary (SparseCore.T d : Thread nD τ) ∗ ((SparseCore.T d : Thread nD τ).loc x ↦{fullShare} a) ∗ ((SparseCore.T d : Thread nD τ).loc y ↦{fullShare} b)) : sProp 𝕄)
      ⊢ wp frame (wpE ((K (F := F)).defs D) 𝒱 (SparseCore.T d : Thread nD τ) none) Set.univ (hlo hp op fun _ => .ret PUnit.unit)
          fun _ => iprop(boundary (SparseCore.T d : Thread nD τ) ∗ ((SparseCore.T d : Thread nD τ).loc x ↦{fullShare} a)
            ∗ ((SparseCore.T d : Thread nD τ).loc y ↦{fullShare} c)) := by
  have hne : (Proc.devRef .tc x : DevRef τ sig) ≠ Proc.devRef .tc y := StableHlo.devRef_ne_of_ne hxy
  let V : Valuation τ sig (Elt F) := Function.update (Function.update (fun r => m (d, r)) (Proc.devRef .tc y) b) (Proc.devRef .tc x) a
  have hVx : V (Proc.devRef .tc x) = a := Function.update_self ..
  have hVy : V (Proc.devRef .tc y) = b := (Function.update_of_ne hne.symm _ _).trans (Function.update_self ..)
  have hh : ∀ W : Valuation τ sig (Elt F), (StableHlo.held (SparseCore.T d : Thread nD τ) op.bufs W : sProp 𝕄)
      = iprop(((SparseCore.T d : Thread nD τ).loc x ↦{fullShare} W (Proc.devRef .tc x)) ∗ ((SparseCore.T d : Thread nD τ).loc y ↦{fullShare} W (Proc.devRef .tc y))) := by
    intro W
    unfold StableHlo.held
    rw [hb, SparseCore.bigSep_insert' (by simpa using hne), bigSep_singleton]
  have hstep := StableHlo.wp_hlo_within (Ix := HIx 1) (Name := ℕ) (U := UU) (Lvl := ℕ) (defs := (K (F := F)).defs D) 𝒱 (SparseCore.T d : Thread nD τ) none Set.univ
    (hp := hp) (op := op) (k := fun _ => (.ret PUnit.unit)) (S := op.bufs) (Finset.Subset.refl _) (V := V)
    (Q := fun _ => iprop(boundary (SparseCore.T d : Thread nD τ) ∗ ((SparseCore.T d : Thread nD τ).loc x ↦{fullShare} a)
            ∗ ((SparseCore.T d : Thread nD τ).loc y ↦{fullShare} c))) hf
  rw [hh, hh, hVx, hVy, (hr V hVx).1, (hr V hVx).2] at hstep
  iintro ⟨HB, Hx, Hy⟩
  iapply hstep $$ [HB Hx Hy]
  · isplitl [HB]; · iexact HB
    isplitl [Hx]; · iexact Hx
    iexact Hy
  iintro ⟨HB, Hx, Hy⟩
  rw [wp_ret]
  imodintro
  isplitl [HB]; · iexact HB
  isplitl [Hx]; · iexact Hx
  iexact Hy

/-! ## The values along @main -/

section
variable (m : (ℓ : Loc nD τ sig) → Buf (Elt F) ℓ) (ρ : Dev nD → PrngReg)

abbrev aLoc (d : Dev nD) : Loc nD τ sig := (SparseCore.T d : Thread nD τ).loc main_arg0
abbrev v0Loc (d : Dev nD) : Loc nD τ sig := (SparseCore.T d : Thread nD τ).loc main_v0
abbrev v6Loc (d : Dev nD) : Loc nD τ sig := (SparseCore.T d : Thread nD τ).loc main_v6
abbrev v7Loc (d : Dev nD) : Loc nD τ sig := (SparseCore.T d : Thread nD τ).loc main_v7
abbrev v8Loc (d : Dev nD) : Loc nD τ sig := (SparseCore.T d : Thread nD τ).loc main_v8

def trM (d : Dev nD) : S4x32x32x32x128.Idx → F .f32 :=
  transpose S4x32x32x32x128 [0, 2, 3, 4, 1] (m (aLoc d) : S4x128x32x32x32.Idx → F .f32) transposes_S4x128x32x32x32_S4x32x32x32x128_0_2_3_4_1
def tbM (d : Dev nD) : S131072x128.Idx → F .f32 := shapeCast S131072x128 (trM m d) shapeCasts_S4x32x32x32x128_S131072x128
def xM (d : Dev nD) : S256x7.Idx → F .f32 := m (xLoc d)
def f3M (d : Dev nD) : S32x196x112.Idx → BitVec 32 := shapeCast S32x196x112 (idxA (xM m d)) shapeCasts_S256x2744_S32x196x112
def f4M (d : Dev nD) : S32x196x112.Idx → F .f32 := shapeCast S32x196x112 (wA (xM m d)) shapeCasts_S256x2744_S32x196x112
def o6M (d : Dev nD) : S256x343x128.Idx → F .f32 := shapeCast S256x343x128 (resG (tbM m d) (f3M m d) (f4M m d)) shapeCasts_S11239424_S256x343x128
def o7M (d : Dev nD) : S256x128x343.Idx → F .f32 := transpose S256x128x343 [0, 2, 1] (o6M m d) transposes_S256x343x128_S256x128x343_0_2_1
def outM (d : Dev nD) : S256x128x7x7x7.Idx → F .f32 := shapeCast S256x128x7x7x7 (o7M m d) shapeCasts_S256x128x343_S256x128x7x7x7

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (v0Loc d ↦{fullShare} W main_v0)
      ∗ (tbLoc d ↦{fullShare} W main_v1) ∗ (i0Loc d ↦{fullShare} W main_v2_0) ∗ (w0Loc d ↦{fullShare} W main_v2_1) ∗ (ixLoc d ↦{fullShare} W main_v3)
      ∗ (wLoc d ↦{fullShare} W main_v4) ∗ (oLoc d ↦{fullShare} W main_v5) ∗ (v6Loc d ↦{fullShare} W main_v6) ∗ (v7Loc d ↦{fullShare} W main_v7)
      ∗ (v8Loc d ↦{fullShare} W main_v8)) := by
  unfold unscopedBufs
  rw [show (Finset.univ.filter fun b : Ref sig .tc => ¬ b.isScoped) = {main_arg0, main_arg1, main_v0, main_v1, main_v2_0, main_v2_1, main_v3, main_v4, main_v5, main_v6, main_v7, main_v8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The state the TensorCore is in before the SparseCore call, its debts apart. -/
theorem tcSt_owes (d : Dev nD) : ((K (F := F)).tcSt EH d 0 : sProp 𝕄) ⊢ iprop(owesBot (F := F) d ∗ (owesBot (F := F) d -∗ (K (F := F)).tcSt EH d 0)) := by
  unfold SparseCore.Cfg.tcSt
  iintro ⟨HO, HR⟩
  isplitl [HO]
  · iexact HO
  iintro HO
  isplitl [HO]
  · iexact HO
  iexact HR

/-- What is left at the end of @main that the claims speak of. -/
abbrev FIN (d : Dev nD) : sProp 𝕄 := iprop((aLoc d ↦{fullShare} m (aLoc d)) ∗ (xLoc d ↦{fullShare} m (xLoc d)) ∗ (v8Loc d ↦{fullShare} (outM m d : Buf (Elt F) (v8Loc d))))

abbrev GG (d : Dev nD) : sProp 𝕄 := iprop(Pipeline.cellsGhost (Pipeline.pin (pcfgs (F := F)) adm0) EP 0 d ∗ Pipeline.toksInit (Pipeline.pin (pcfgs (F := F)) adm0) EP 0 d)

theorem hmain [∀ e, Nonempty (Elt F e)] (κ : GSem nD τ sig → ℕ) (d : Dev nD) :
    iprop((K (F := F)).ctx EH (P (tbM m) (f3M m) (f4M m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Hv0, Htb, Hi0, Hw0, Hix, Hw, Ho, Hv6, Hv7, Hv8⟩, Hts, -⟩, Hgc, Hgt⟩
  iapply (wp_then (wp_two d main_arg0 main_v0 (by decide) _ rfl rfl rfl m (m (aLoc d)) (m (v0Loc d)) (trM m d)
    (fun V h => ⟨(StableHlo.unary_result_ne' _ _ _ V (by decide)).trans h, by rw [StableHlo.unary_result', h]; rfl⟩)))
  isplitl [Hb Ha Hv0]
  · isplitl [Hb]; · iexact Hb
    isplitl [Ha]; · iexact Ha
    iexact Hv0
  iintro ⟨Hb, Ha, Hv0⟩ %u
  iapply (wp_then (wp_two d main_v0 main_v1 (by decide) _ rfl rfl rfl m (trM m d) (m (tbLoc d)) (tbM m d)
    (fun V h => ⟨(StableHlo.reshape_result_ne' _ _ _ _ V (by decide)).trans h, by rw [StableHlo.reshape_result', h]; rfl⟩)))
  isplitl [Hb Hv0 Htb]
  · isplitl [Hb]; · iexact Hb
    isplitl [Hv0]; · iexact Hv0
    iexact Htb
  iintro ⟨Hb, Hv0, Htb⟩ %u
  ihave #Hl := (SparseCore.Cfg.ctx_levAts (K := K (F := F)) (EH := EH) (P := P (tbM m) (f3M m) (f4M m)) κ) $$ Hctx
  ihave Hst' := (tcSt_owes d) $$ Hst
  icases Hst' with ⟨HO, Hst⟩
  iapply (wp_then (region_wp (xM m) (fun d => m (i0Loc d)) (fun d => m (w0Loc d)) d))
  isplitl [Hb Hx Hi0 Hw0 HO Hgc Hgt]
  · isplitl [Hb]; · iexact Hb
    isplitl [Hx Hi0 Hw0 HO]
    · isplitl [Hx]; · iexact Hx
      isplitl [Hi0]; · iexact Hi0
      isplitl [Hw0]; · iexact Hw0
      iexact HO
    isplitr; · iexact Hl
    isplitl [Hgc]; · iexact Hgc
    iexact Hgt
  iintro ⟨Hb, Hx, Hi0, Hw0, HO⟩ %u
  ihave Hst := Hst $$ HO
  iapply (wp_then (wp_two d main_v2_0 main_v3 (by decide) _ rfl rfl rfl m (idxA (xM m d)) (m (ixLoc d)) (f3M m d)
    (fun V h => ⟨(StableHlo.reshape_result_ne' _ _ _ _ V (by decide)).trans h, by rw [StableHlo.reshape_result', h]; rfl⟩)))
  isplitl [Hb Hi0 Hix]
  · isplitl [Hb]; · iexact Hb
    isplitl [Hi0]; · iexact Hi0
    iexact Hix
  iintro ⟨Hb, Hi0, Hix⟩ %u
  iapply (wp_then (wp_two d main_v2_1 main_v4 (by decide) _ rfl rfl rfl m (wA (xM m d)) (m (wLoc d)) (f4M m d)
    (fun V h => ⟨(StableHlo.reshape_result_ne' _ _ _ _ V (by decide)).trans h, by rw [StableHlo.reshape_result', h]; rfl⟩)))
  isplitl [Hb Hw0 Hw]
  · isplitl [Hb]; · iexact Hb
    isplitl [Hw0]; · iexact Hw0
    iexact Hw
  iintro ⟨Hb, Hw0, Hw⟩ %u
  iapply ((K (F := F)).wp_run (D (F := F)) 𝒱 (EH := EH) (P := P (tbM m) (f3M m) (f4M m)) κ d 0) $$ [Hst Htb Hix Hw Ho Ha Hx Hv6 Hv7 Hv8 Hb Hts]
  isplitr; · iexact Hctx
  isplitl [Hst]; · iexact Hst
  isplitl [Htb Hix Hw Ho]
  · rw [st0_eq]
    iapply (deal_out d (tbM m d) (f3M m d) (f4M m d) (m (oLoc d)))
    isplitl [Htb]; · iexact Htb
    isplitl [Hix]; · iexact Hix
    isplitl [Hw]; · iexact Hw
    iexact Ho
  rw [dn0_eq]
  iintro ⟨Hst, Hdn⟩
  ihave Hdn := (eq_entails (gather_in d (tbM m d) (f3M m d) (f4M m d))) $$ Hdn
  icases Hdn with ⟨-, Ho⟩
  iapply (wp_then (wp_two d main_v5 main_v6 (by decide) _ rfl rfl rfl m (resG (tbM m d) (f3M m d) (f4M m d)) (m (v6Loc d)) (o6M m d)
    (fun V h => ⟨(StableHlo.reshape_result_ne' _ _ _ _ V (by decide)).trans h, by rw [StableHlo.reshape_result', h]; rfl⟩)))
  isplitl [Hb Ho Hv6]
  · isplitl [Hb]; · iexact Hb
    isplitl [Ho]; · iexact Ho
    iexact Hv6
  iintro ⟨Hb, Ho, Hv6⟩ %u
  iapply (wp_then (wp_two d main_v6 main_v7 (by decide) _ rfl rfl rfl m (o6M m d) (m (v7Loc d)) (o7M m d)
    (fun V h => ⟨(StableHlo.unary_result_ne' _ _ _ V (by decide)).trans h, by rw [StableHlo.unary_result', h]; rfl⟩)))
  isplitl [Hb Hv6 Hv7]
  · isplitl [Hb]; · iexact Hb
    isplitl [Hv6]; · iexact Hv6
    iexact Hv7
  iintro ⟨Hb, Hv6, Hv7⟩ %u
  iapply (wp_then (wp_two d main_v7 main_v8 (by decide) _ rfl rfl rfl m (o7M m d) (m (v8Loc d)) (outM m d)
    (fun V h => ⟨(StableHlo.reshape_result_ne' _ _ _ _ V (by decide)).trans h, by rw [StableHlo.reshape_result', h]; rfl⟩)))
  isplitl [Hb Hv7 Hv8]
  · isplitl [Hb]; · iexact Hb
    isplitl [Hv7]; · iexact Hv7
    iexact Hv8
  iintro ⟨Hb, Hv7, Hv8⟩ %u
  imodintro
  isplitl [Hst]; · iexact Hst
  isplitl [Ha Hx Hv8]
  · isplitl [Ha]; · iexact Ha
    isplitl [Hx]; · iexact Hx
    iexact Hv8
  isplitl [Hb] <;> iassumption

/-! ## The launch element of the ghost state -/

def u₀ : UU := (initOf (K (F := F)).hsCells (K (F := F)).hsToks,
  (initOf (Pipeline.cells (nD := nD) (τ := τ) (Pipeline.pin (pcfgs (F := F)) adm0) cellOf_inj)
    (Pipeline.launchToks (nD := nD) (τ := τ) (Pipeline.pin (pcfgs (F := F)) adm0) cellOf_inj), 1))

theorem none_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (P (tbM m) (f3M m) (f4M m)).x q thr) := by
  unfold u₀
  iintro Hu
  ihave H := (ownU_pair (initOf (K (F := F)).hsCells (K (F := F)).hsToks) _) $$ Hu
  icases H with ⟨HH, HP⟩
  ihave HP := (eq_entails (show (BI.own (embR ((initOf (Pipeline.cells (nD := nD) (τ := τ) (Pipeline.pin (pcfgs (F := F)) adm0) cellOf_inj)
      (Pipeline.launchToks (nD := nD) (τ := τ) (Pipeline.pin (pcfgs (F := F)) adm0) cellOf_inj), 1) : UP × Counters)) : sProp 𝕄)
    = BI.own (EP (initOf (Pipeline.cells (nD := nD) (τ := τ) (Pipeline.pin (pcfgs (F := F)) adm0) cellOf_inj)
      (Pipeline.launchToks (nD := nD) (τ := τ) (Pipeline.pin (pcfgs (F := F)) adm0) cellOf_inj))) from rfl)) $$ HP
  ihave HP' := (Pipeline.fund_ghost (Pipeline.pin (pcfgs (F := F)) adm0) EP cellOf_inj) $$ HP
  imod HP' with ⟨Hc, Ht⟩
  imodintro
  isplitl [HH]; · iexact HH
  isplitl [Hc Ht]
  · unfold GG
    rw [bigSep_sep']
    isplitl [Hc]
    · iapply (show (bigSep Finset.univ fun c : Dev nD => bigSep Finset.univ fun p : Fin 1 => Pipeline.cellsGhost (Pipeline.pin (pcfgs (F := F)) adm0) EP p c : sProp 𝕄)
        ⊢ bigSep Finset.univ fun c : Dev nD => Pipeline.cellsGhost (Pipeline.pin (pcfgs (F := F)) adm0) EP 0 c
        from eq_entails (bigSep_congr fun _ _ => bigSep_univ_of_subsingleton (0 : Fin 1)))
      iexact Hc
    · iapply (show (bigSep Finset.univ fun c : Dev nD => bigSep Finset.univ fun p : Fin 1 => Pipeline.toksInit (Pipeline.pin (pcfgs (F := F)) adm0) EP p c : sProp 𝕄)
        ⊢ bigSep Finset.univ fun c : Dev nD => Pipeline.toksInit (Pipeline.pin (pcfgs (F := F)) adm0) EP 0 c
        from eq_entails (bigSep_congr fun _ _ => bigSep_univ_of_subsingleton (0 : Fin 1)))
      iexact Ht
  rw [show (bigSep Finset.univ fun thr : Thread nD τ => bigSep Finset.univ fun q : Fin 1 => (P (F := F) (tbM m) (f3M m) (f4M m)).x q thr) = bigSep Finset.univ fun _ => iprop(emp) from
    bigSep_congr fun _ _ => bigSep_univ_of_subsingleton (0 : Fin 1), none_all]
  iempintro

/-! ## The run -/

def fq (d : Dev nD) (s' : Phys nD τ sig (Elt F)) : Prop :=
  s'.mem.mem (aLoc d) = m (aLoc d) ∧ s'.mem.mem (xLoc d) = m (xLoc d) ∧ s'.mem.mem (v8Loc d) = outM m d

theorem agree {ℓ : Loc nD τ sig} {f : Buf (Elt F) ℓ} {s' : Phys nD τ sig (Elt F)} : (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Ha, Hx, Ho⟩, HSI⟩
  ihave H := agree $$ [Ha HSI]
  · isplitl [Ha] <;> iassumption
  icases H with ⟨%h1, HSI⟩
  ihave H := agree $$ [Hx HSI]
  · isplitl [Hx] <;> iassumption
  icases H with ⟨%h2, HSI⟩
  ihave H := agree $$ [Ho HSI]
  · isplitl [Ho] <;> iassumption
  icases H with ⟨%h3, -⟩
  ipureintro; exact ⟨h1, h2, h3⟩

def QC : PUnit × MemSt nD τ sig (Elt F) → Prop := fun r =>
  (∀ c : Dev nD, r.2.mem (aLoc c) = m (aLoc c) ∧ r.2.mem (xLoc c) = m (xLoc c) ∧ r.2.mem (v8Loc c) = outM m c) ∧ r.2.sem = fun _ => 0

theorem run_main [∀ e, Nonempty (Elt F e)] (hfi : ∀ d y, (f3M m d y).toNat < 131072) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tbM m) (f3M m) (f4M m)) (A := ∅) facts v₀
    (fun q hq => match q with | 0 => nomatch hq)
    (fun q _ => match q with | 0 => tileObl (tbM m) (f4M m) facts hfi)
    (fun q _ => match q with | 0 => SparseCore.Cfg.VecSplit.of_plain (vecSplit (tbM m) (f3M m) (f4M m)))
    m ρ main GG (FIN m) (u₀ (F := F)) (sep_elim_left.trans (hu₀ m)) (hmain m ρ) (fq m) (hfin m) (QC m) (fun _ h hz => ⟨h, hz⟩)

end

end Cert.Proof
-- ==== Proof.InRange.lean ====
module

public import proofs.«01_k».proof.Defs
public import proofs.«01_k».proof.Proof.Row
public import proofs.«01_k».proof.Proof.Main
public import proofs.«01_k».proof.Proof.Gen.Pre_in_range
public import Idealize.ShloMosaic.Lib.PointwiseCore
public import Idealize.ShloMosaic.Lib.Quiescent
public import proofs.«01_k».proof.Proof.Gen.Kernel
public import proofs.«01_k».proof.Proof.Gen.ReferenceIdeal.Run

@[expose] public section

noncomputable section

namespace Cert.Proof

open Idealize.ShloMosaic

variable {F : FTy → Type} [FloatOps F]

/-! ## What the precondition says of a region's sample -/

theorem toNat_lt_four {b : BitVec 32} (h0 : IntOp.cmpi .sge b 0#32 = 1#1) (h4 : IntOp.cmpi .slt b 4#32 = 1#1) : b.toNat < 4 := by
  have c0 : (0#32).toInt = 0 := by decide
  have c4 : (4#32).toInt = 4 := by decide
  rw [IntOp.cmpi_sge, c0] at h0
  rw [IntOp.cmpi_slt, c4] at h4
  have := BitVec.toInt_eq_toNat_cond b
  have hv := b.isLt
  split at this <;> omega

instance : Subsingleton Cert.Pre_in_range.S_.Idx := ⟨fun _ _ => funext fun a => a.elim0⟩

theorem rowA_ix (x : Cert.KernelIdeal.S256x7.Idx → F .f32) (p : Fin 256) (k : Fin 7) : rowA x p k = x (ix2 p k) := by
  unfold rowA
  congr 1
  funext a
  fin_cases a <;> rfl

theorem in_range_at (a : FVec F Cert.Pre_in_range.S4x128x32x32x32 .f32) (x : FVec F Cert.Pre_in_range.S256x7 .f32)
    (h : Cert.Pre_in_range.fn (F := F) a x = fun _ => 1#1) (p : Fin 256) :
    (FloatOps.fptosi 32 (rowA x p 6) : BitVec 32).toNat < 4 := by
  have h1 := congrFun h (fun a => a.elim0)
  unfold Cert.Pre_in_range.fn at h1
  have h2 := Host.reduce_andi_all _ _ _ _ _ h1 (ix1 p)
  rw [show andi _ _ _ = IntOp.andi _ _ from rfl, IntOp.andi_eq_one] at h2
  obtain ⟨h3, h4⟩ := h2
  refine toNat_lt_four ?_ ?_
  · refine Eq.trans ?_ h3
    pointwise
    rw [rowA_ix]
  · refine Eq.trans ?_ h4
    pointwise
    rw [rowA_ix]

theorem hfi_of {m : (ℓ : Loc Cert.KernelIdeal.nD Cert.KernelIdeal.τ Cert.KernelIdeal.sig) → Buf (Elt F) ℓ}
    (h : ∀ c : Dev Cert.KernelIdeal.nD, Cert.Pre_in_range.fn (F := F) (m (aLoc c)) (m (xLoc c)) = fun _ => 1#1) :
    ∀ d y, (f3M m d y).toNat < 131072 := by
  intro d y
  show (idxA (xM m d) _).toNat < _
  rw [idxA_at]
  exact idxS_toNat _ _ (in_range_at _ _ (h d) _)

theorem frame_KernelIdeal : Cert.quiescent_KernelIdeal := fun m ρ hpre =>
  (θ_run Cert.KernelIdeal.defs _ _).mono (fun _ h => ⟨fun c => ⟨(h.1 c).1, (h.1 c).2.1⟩, h.2⟩) (run_main (F := Ideal) m ρ (hfi_of hpre))

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The kernel as it runs: the same text -/

section
set_option maxRecDepth 65536

theorem same_bodies : (Cert.Kernel.defs₀ (F := F)) = Cert.KernelIdeal.defs₀ := by
  funext p ℓ a
  match p, ℓ with
  | .tc, 0 => rfl
  | .tc, 1 => rfl
  | .scVector _ _, 0 => rfl
  | .scVector _ _, 1 => rfl
  | .scScalar _, 0 => rfl
  | .scScalar _, 1 => rfl

theorem same_defs : (Cert.Kernel.defs (F := F)) = Cert.KernelIdeal.defs := by
  show Cert.KernelIdeal.sc.defs (Pipeline.defs Cert.KernelIdeal.pcfgs (Cert.Kernel.defs₀ (F := F))) = _
  rw [same_bodies]; rfl

theorem same_threads : (Cert.Kernel.threads (F := F)) = Cert.KernelIdeal.threads := rfl
end

theorem frame_Kernel : Cert.quiescent_Kernel := fun m ρ hpre => by
  rw [same_defs, same_threads]
  exact (θ_run Cert.KernelIdeal.defs _ _).mono (fun _ h => ⟨fun c => ⟨(h.1 c).1, (h.1 c).2.1⟩, h.2⟩) (run_main (F := Bits) m ρ (hfi_of hpre))

end Cert.Proof

end
-- ==== Proof.RefAt.lean ====
module

public import proofs.«01_k».proof.Proof.Ints
public import proofs.«01_k».proof.Proof.Gen.ReferenceIdeal.Run
public import Idealize.ShloMosaic.Lib.Pointwise

@[expose] public section

noncomputable section

namespace Cert.Proof

open Cert.ReferenceIdeal Cert.ReferenceIdeal.Gen Cert.ReferenceIdeal.Value
open Idealize.ShloMosaic

/-! ## The reference's gather, at an index -/

/-- A start index, kept on an axis of `n` places. -/
def keep (n : ℕ) (v : BitVec 32) (h : 0 < n) : Fin n := ⟨min v.toInt.toNat (n - 1), by omega⟩

abbrev gatD := gather_S4x128x32x32x32_S256x7x7x7x4_S256x7x7x7x128_4_0234_n_n_0234_4_1128111

theorem gather_at {α : Type} (x : S4x128x32x32x32.Idx → α) (idx : IVec S256x7x7x7x4 32) (n : Fin 256) (a b c : Fin 7) (ch : Fin 128) :
    Host.gather gatD x idx (ix5 n a b c ch)
      = x (ix5 (keep 4 (idx (ix5 n a b c (0 : Fin 4))) (by decide)) ch (keep 32 (idx (ix5 n a b c (1 : Fin 4))) (by decide))
          (keep 32 (idx (ix5 n a b c (2 : Fin 4))) (by decide)) (keep 32 (idx (ix5 n a b c (3 : Fin 4))) (by decide))) := by
  have hs : ∀ k : Fin 4, gatD.siIdx (ix5 n a b c ch) k = ix5 n a b c k := by
    intro k
    funext e
    refine Fin.ext ?_
    fin_cases e <;> rfl
  unfold Host.gather
  congr 1
  funext e
  refine Fin.ext ?_
  show gatD.start (ix5 n a b c ch) idx e + gatD.batchCoord (ix5 n a b c ch) e + gatD.offCoord (ix5 n a b c ch) e = _
  rw [GatherDims.batchCoord_eq_zero _ _ _ List.not_mem_nil, Nat.add_zero]
  unfold GatherDims.start GatherDims.offCoord
  fin_cases e
  · show min (idx (gatD.siIdx (ix5 n a b c ch) (0 : Fin 4))).toInt.toNat 3 + 0 = _
    rw [hs]; rfl
  · show 0 + ch.val = ch.val
    omega
  · show min (idx (gatD.siIdx (ix5 n a b c ch) (1 : Fin 4))).toInt.toNat 31 + 0 = _
    rw [hs]; rfl
  · show min (idx (gatD.siIdx (ix5 n a b c ch) (2 : Fin 4))).toInt.toNat 31 + 0 = _
    rw [hs]; rfl
  · show min (idx (gatD.siIdx (ix5 n a b c ch) (3 : Fin 4))).toInt.toNat 31 + 0 = _
    rw [hs]; rfl

/-- A start index below zero counts from the end. -/
def wrapS (m v : BitVec 32) : BitVec 32 := Scalar.select (IntOp.cmpi .slt v 0#32) (IntOp.addi v m) v

variable (V : Valuation τ sig (Elt Ideal))

/-- The reference's arguments. -/
def aR : S4x128x32x32x32.Idx → EReal := V (Proc.devRef .tc main_arg0)
def xR : S256x7.Idx → EReal := V (Proc.devRef .tc main_arg1)
/-- Region `n`. -/
def rR (n : Fin 256) : Fin 7 → Ideal .f32 := fun k => xR V (ix2 n k)

/-- A region's coordinate of a grid point on each axis. -/
def yR (n : Fin 256) (i : Fin 7) : Ideal .f32 := crdS (rR V n 0) (rR V n 3) (BitVec.ofNat 32 i.val)
def x_R (n : Fin 256) (i : Fin 7) : Ideal .f32 := crdS (rR V n 1) (rR V n 4) (BitVec.ofNat 32 i.val)
def zR (n : Fin 256) (i : Fin 7) : Ideal .f32 := crdS (rR V n 2) (rR V n 5) (BitVec.ofNat 32 i.val)

/-- A corner in units of the grid, by the reference's division. -/
theorem unit_div (v : EReal) : Ideal.div v (Ideal.ofBits .f32 0x42000000#32) = unitS (F := Ideal) v := by
  have h1 : Ideal.ofBits .f32 0x42000000#32 = ((32 : ℝ) : EReal) := by
    simp [Ideal.ofBits, Ideal.ieee]
    rw [← EReal.coe_mul]; norm_num
  have h2 : Ideal.ofBits .f32 0x3D000000#32 = ((32 : ℝ)⁻¹ : ℝ) := by
    simp [Ideal.ofBits, Ideal.ieee]
    rw [← EReal.coe_mul]; norm_num
  show _ = v * Ideal.ofBits .f32 0x3D000000#32
  rw [h1, h2]
  unfold Ideal.div
  rw [if_neg (by exact_mod_cast (by norm_num : (32 : ℝ) ≠ 0)), EReal.coe_inv]

theorem one_f32 : Ideal.ofBits .f32 0x3F800000#32 = 1 := by
  simp [Ideal.ofBits, Ideal.ieee]
  rw [← EReal.coe_mul]; norm_num

theorem wgtS_low (q : Ideal .f32) : wgtS q 0#32 = (1 : EReal) - wgtS q 1#32 := by
  show Ideal.ofBits .f32 0x3F800000#32 - _ = _
  rw [one_f32]; rfl

theorem v33_at (n : Fin 256) (i : Fin 7) : res_main_v33 V (ix2 n i) = yR V n i := by
  pointwise [res_main_v33, res_main_v7, res_main_v2, unit_div]; rfl
theorem v49_at (n : Fin 256) (i : Fin 7) : res_main_v49 V (ix2 n i) = x_R V n i := by
  pointwise [res_main_v49, res_main_v9, res_main_v2, unit_div]; rfl
theorem v65_at (n : Fin 256) (i : Fin 7) : res_main_v65 V (ix2 n i) = zR V n i := by
  pointwise [res_main_v65, res_main_v11, res_main_v2, unit_div]; rfl

theorem voxS_zero (q : Ideal .f32) : voxS q 0#32 = IntOp.minsi 31#32 (IntOp.maxsi 0#32 (FloatOps.fptosi 32 (FloatOps.floor q))) := by
  unfold voxS IntOp.addi; rw [BitVec.add_zero]

theorem v69_at (n : Fin 256) (i : Fin 7) : res_main_v69 V (ix2 n i) = voxS (yR V n i) 0#32 := by
  pointwise [res_main_v69, res_main_v66, v33_at, voxS_zero]; rfl
theorem v73_at (n : Fin 256) (i : Fin 7) : res_main_v73 V (ix2 n i) = voxS (yR V n i) 1#32 := by
  pointwise [res_main_v73, res_main_v66, v33_at]; rfl
theorem v82_at (n : Fin 256) (i : Fin 7) : res_main_v82 V (ix2 n i) = voxS (x_R V n i) 0#32 := by
  pointwise [res_main_v82, res_main_v79, v49_at, voxS_zero]; rfl
theorem v86_at (n : Fin 256) (i : Fin 7) : res_main_v86 V (ix2 n i) = voxS (x_R V n i) 1#32 := by
  pointwise [res_main_v86, res_main_v79, v49_at]; rfl
theorem v95_at (n : Fin 256) (i : Fin 7) : res_main_v95 V (ix2 n i) = voxS (zR V n i) 0#32 := by
  pointwise [res_main_v95, res_main_v92, v65_at, voxS_zero]; rfl
theorem v99_at (n : Fin 256) (i : Fin 7) : res_main_v99 V (ix2 n i) = voxS (zR V n i) 1#32 := by
  pointwise [res_main_v99, res_main_v92, v65_at]; rfl

theorem v105_at (n : Fin 256) : res_main_v105 V (ix4 n 0 0 0) = FloatOps.fptosi 32 (rR V n 6) := by
  pointwise [res_main_v105]; rfl

theorem v106_at (n : Fin 256) (i : Fin 7) : res_main_v106 V (ix4 n i 0 0) = wgtS (yR V n i) 1#32 := by
  pointwise [res_main_v106, res_main_v66, v33_at]; rfl
theorem v108_at (n : Fin 256) (i : Fin 7) : res_main_v108 V (ix4 n i 0 0) = wgtS (yR V n i) 0#32 := by
  pointwise [res_main_v108, v106_at]; exact (wgtS_low _).symm
theorem v109_at (n : Fin 256) (i : Fin 7) : res_main_v109 V (ix4 n 0 i 0) = wgtS (x_R V n i) 1#32 := by
  pointwise [res_main_v109, res_main_v79, v49_at]; rfl
theorem v111_at (n : Fin 256) (i : Fin 7) : res_main_v111 V (ix4 n 0 i 0) = wgtS (x_R V n i) 0#32 := by
  pointwise [res_main_v111, v109_at]; exact (wgtS_low _).symm
theorem v112_at (n : Fin 256) (i : Fin 7) : res_main_v112 V (ix4 n 0 0 i) = wgtS (zR V n i) 1#32 := by
  pointwise [res_main_v112, res_main_v92, v65_at]; rfl
theorem v114_at (n : Fin 256) (i : Fin 7) : res_main_v114 V (ix4 n 0 0 i) = wgtS (zR V n i) 0#32 := by
  pointwise [res_main_v114, v112_at]; exact (wgtS_low _).symm

/-- One corner's voxel times its weight. -/
def cornR (n : Fin 256) (a b c : Fin 7) (ch : Fin 128) (i j k : BitVec 32) : EReal :=
  aR V (ix5 (keep 4 (wrapS 4#32 (FloatOps.fptosi 32 (rR V n 6))) (by decide)) ch
      (keep 32 (wrapS 32#32 (voxS (yR V n a) i)) (by decide)) (keep 32 (wrapS 32#32 (voxS (x_R V n b) j)) (by decide))
      (keep 32 (wrapS 32#32 (voxS (zR V n c) k)) (by decide)))
    * ((wgtS (yR V n a) i : EReal) * wgtS (x_R V n b) j * wgtS (zR V n c) k)

theorem v199_at (n : Fin 256) (a b c : Fin 7) (ch : Fin 128) :
    @Eq EReal (res_main_v199 V (ix5 n a b c ch))
      (cornR V n a b c ch 0#32 0#32 0#32 + cornR V n a b c ch 0#32 0#32 1#32) := by
  pointwise [res_main_v199, gather_at, v105_at, res_main_v115, res_main_v116, res_main_v117, res_main_v157, res_main_v158, res_main_v159,
    v69_at, v73_at, v82_at, v86_at, v95_at, v99_at, v106_at, v108_at, v109_at, v111_at, v112_at, v114_at]
  rfl

theorem v285_at (n : Fin 256) (a b c : Fin 7) (ch : Fin 128) :
    @Eq EReal (res_main_v285 V (ix5 n a b c ch))
      (cornR V n a b c ch 0#32 0#32 0#32 + cornR V n a b c ch 0#32 0#32 1#32 + cornR V n a b c ch 0#32 1#32 0#32 + cornR V n a b c ch 0#32 1#32 1#32) := by
  pointwise [res_main_v285, v199_at, gather_at, v105_at, res_main_v200, res_main_v201, res_main_v202, res_main_v243, res_main_v244, res_main_v245,
    v69_at, v73_at, v82_at, v86_at, v95_at, v99_at, v106_at, v108_at, v109_at, v111_at, v112_at, v114_at]
  rfl

theorem v371_at (n : Fin 256) (a b c : Fin 7) (ch : Fin 128) :
    @Eq EReal (res_main_v371 V (ix5 n a b c ch))
      (cornR V n a b c ch 0#32 0#32 0#32 + cornR V n a b c ch 0#32 0#32 1#32 + cornR V n a b c ch 0#32 1#32 0#32 + cornR V n a b c ch 0#32 1#32 1#32
      + cornR V n a b c ch 1#32 0#32 0#32 + cornR V n a b c ch 1#32 0#32 1#32) := by
  pointwise [res_main_v371, v285_at, gather_at, v105_at, res_main_v286, res_main_v287, res_main_v288, res_main_v329, res_main_v330, res_main_v331,
    v69_at, v73_at, v82_at, v86_at, v95_at, v99_at, v106_at, v108_at, v109_at, v111_at, v112_at, v114_at]
  rfl

theorem v457_at (n : Fin 256) (a b c : Fin 7) (ch : Fin 128) :
    @Eq EReal (res_main_v457 V (ix5 n a b c ch))
      (cornR V n a b c ch 0#32 0#32 0#32 + cornR V n a b c ch 0#32 0#32 1#32 + cornR V n a b c ch 0#32 1#32 0#32 + cornR V n a b c ch 0#32 1#32 1#32
      + cornR V n a b c ch 1#32 0#32 0#32 + cornR V n a b c ch 1#32 0#32 1#32 + cornR V n a b c ch 1#32 1#32 0#32 + cornR V n a b c ch 1#32 1#32 1#32) := by
  pointwise [res_main_v457, v371_at, gather_at, v105_at, res_main_v372, res_main_v373, res_main_v374, res_main_v415, res_main_v416, res_main_v417,
    v69_at, v73_at, v82_at, v86_at, v95_at, v99_at, v106_at, v108_at, v109_at, v111_at, v112_at, v114_at]
  rfl

end Cert.Proof

end
-- ==== Proof.Out.lean ====
module

public import proofs.«01_k».proof.Proof.InRange
public import proofs.«01_k».proof.Proof.RefAt
public import Idealize.ShloMosaic.Lib.Pointwise

@[expose] public section

noncomputable section

namespace Cert.Proof

open Idealize.ShloMosaic Idealize.ShloMosaic.StableHlo Cert.KernelIdeal Cert.KernelIdeal.Gen

variable {F : FTy → Type} [FloatOps F]
variable (m : (ℓ : Loc nD τ sig) → Buf (Elt F) ℓ)

/-- A small index that isn't below zero is itself. -/
theorem keep_wrap {n : ℕ} (k v : BitVec 32) (h : 0 < n) (hv : v.toNat < n) (hn : n ≤ 32) : keep n (wrapS k v) h = ⟨v.toNat, hv⟩ := by
  have h1 : v.toInt = v.toNat := by
    have := BitVec.toInt_eq_toNat_cond v
    split at this <;> omega
  have h2 : wrapS k v = v := by
    unfold wrapS Scalar.select
    rw [if_neg]
    have c0 : (0#32).toInt = 0 := by decide
    intro hc
    have hc := IntOp.cmpi_slt.mp hc
    rw [c0] at hc
    omega
  unfold keep
  refine Fin.ext ?_
  show min (wrapS k v).toInt.toNat (n - 1) = v.toNat
  rw [h2, h1]
  simp; omega

theorem outM_at (d : Dev nD) (n : Fin 256) (ch : Fin 128) (a b c : Fin 7) :
    outM m d (ix5 n ch a b c) = resG (tbM m d) (f3M m d) (f4M m d) (ix1 ⟨n.val * 43904 + (a.val * 49 + b.val * 7 + c.val) * 128 + ch.val, by omega⟩) := by
  pointwise [outM, o7M, o6M]

theorem f3M_at (d : Dev nD) (g : Fin 32) (r : Fin 196) (k : Fin 112) :
    f3M m d (ix3 g r k) = idxA (xM m d) (ix2 ⟨(g.val * 21952 + r.val * 112 + k.val) / 2744, by omega⟩ ⟨(g.val * 21952 + r.val * 112 + k.val) % 2744, by omega⟩) := by
  pointwise [f3M]

theorem f4M_at (d : Dev nD) (g : Fin 32) (r : Fin 196) (k : Fin 112) :
    f4M m d (ix3 g r k) = wA (xM m d) (ix2 ⟨(g.val * 21952 + r.val * 112 + k.val) / 2744, by omega⟩ ⟨(g.val * 21952 + r.val * 112 + k.val) % 2744, by omega⟩) := by
  pointwise [f4M]

theorem tbM_at (d : Dev nD) (b : Fin 4) (y x z : Fin 32) (ch : Fin 128) (h : ((b.val * 32 + y.val) * 32 + x.val) * 32 + z.val < 131072) :
    tbM m d (ix2 ⟨((b.val * 32 + y.val) * 32 + x.val) * 32 + z.val, h⟩ ch) = m (aLoc d) (ix5 b ch y x z) := by
  pointwise [tbM, trM]

/-- A position's region and column, out of its row, chunk and lane. -/
theorem place (n pt ch k : ℕ) (hn : n < 256) (hpt : pt < 343) (hch : ch < 128) (hk : k < 8) :
    ((n * 43904 + pt * 128 + ch) / 351232 % 32 * 21952 + (n * 43904 + pt * 128 + ch) % 351232 / 1792 % 196 * 112
        + (8 * ((n * 43904 + pt * 128 + ch) % 351232 % 1792 / 128) + k) % 112) / 2744 = n
      ∧ ((n * 43904 + pt * 128 + ch) / 351232 % 32 * 21952 + (n * 43904 + pt * 128 + ch) % 351232 / 1792 % 196 * 112
        + (8 * ((n * 43904 + pt * 128 + ch) % 351232 % 1792 / 128) + k) % 112) % 2744 = 8 * pt + k := by
  -- all in units of 128: `w` is the point among all the regions' points
  have d1 : (n * 43904 + pt * 128 + ch) / 351232 = (n * 343 + pt) / 2744 := by omega
  have d2 : (n * 43904 + pt * 128 + ch) % 351232 / 1792 = (n * 343 + pt) % 2744 / 14 := by omega
  have d3 : (n * 43904 + pt * 128 + ch) % 351232 % 1792 / 128 = (n * 343 + pt) % 2744 % 14 := by omega
  rw [d1, d2, d3]
  generalize hw : n * 343 + pt = w
  have h1 : w / 2744 % 32 = w / 2744 := by omega
  have h2 : w % 2744 / 14 % 196 = w % 2744 / 14 := by omega
  have h3 : (8 * (w % 2744 % 14) + k) % 112 = 8 * (w % 2744 % 14) + k := by omega
  rw [h1, h2, h3]
  have e : w / 2744 * 21952 + w % 2744 / 14 * 112 + (8 * (w % 2744 % 14) + k) = n * 2744 + (8 * pt + k) := by omega
  rw [e]
  omega

theorem resG_at (tb : S131072x128.Idx → F .f32) (f3 : S32x196x112.Idx → BitVec 32) (f4 : S32x196x112.Idx → F .f32) (u : ℕ) (h : u < 11239424) :
    resG tb f3 f4 (ix1 ⟨u, h⟩)
      = outT tb (rowOf f3 (u / 351232)) (rowOf f4 (u / 351232)) (u % 351232 / 1792) (u % 351232 % 1792 / 128) (u % 351232 % 128) := rfl

/-- A table read where the output's position says: region `n`, point `pt`, corner `k`. -/
theorem chN_at {α : Type} (f : S32x196x112.Idx → α) (q : S256x2744.Idx → α)
    (hf : ∀ (g : Fin 32) (r : Fin 196) (k : Fin 112),
      f (ix3 g r k) = q (ix2 ⟨(g.val * 21952 + r.val * 112 + k.val) / 2744, by omega⟩ ⟨(g.val * 21952 + r.val * 112 + k.val) % 2744, by omega⟩))
    (n : Fin 256) (pt ch k : ℕ) (hpt : pt < 343) (hch : ch < 128) (hk : k < 8) :
    chN (rowOf f ((n.val * 43904 + pt * 128 + ch) / 351232)) ((n.val * 43904 + pt * 128 + ch) % 351232 / 1792)
      (8 * ((n.val * 43904 + pt * 128 + ch) % 351232 % 1792 / 128) + k) = q (ix2 n ⟨8 * pt + k, by omega⟩) := by
  obtain ⟨e1, e2⟩ := place n.val pt ch k n.isLt hpt hch hk
  refine (hf ⟨_ % 32, Nat.mod_lt _ (by decide)⟩ ⟨_ % 196, Nat.mod_lt _ (by decide)⟩ ⟨_ % 112, Nat.mod_lt _ (by decide)⟩).trans ?_
  exact congrArg q (congrArg₂ ix2 (Fin.ext e1) (Fin.ext e2))

theorem rowA_fun (x : S256x7.Idx → F .f32) (n : Fin 256) : rowA x n = fun k => x (ix2 n k) := funext fun k => rowA_ix x n k

/-- The kernel's result at an index. -/
theorem out_at (d : Dev nD) (n : Fin 256) (ch : Fin 128) (a b c : Fin 7) :
    outM m d (ix5 n ch a b c)
      = pt8 (fun k => wS (fun j => xM m d (ix2 n j)) (8 * (a.val * 49 + b.val * 7 + c.val) + k.val))
          fun k => tabN (tbM m d) (idxS (fun j => xM m d (ix2 n j)) (8 * (a.val * 49 + b.val * 7 + c.val) + k.val)).toNat ch.val := by
  have hpt : a.val * 49 + b.val * 7 + c.val < 343 := by omega
  rw [outM_at, resG_at]
  unfold outT rowsN
  have e : (n.val * 43904 + (a.val * 49 + b.val * 7 + c.val) * 128 + ch.val) % 351232 % 128 = ch.val := by omega
  refine congrArg₂ pt8 (funext fun k => ?_) (funext fun k => ?_)
  · refine (chN_at (f4M m d) (wA (xM m d)) (f4M_at m d) n _ _ _ hpt ch.isLt k.isLt).trans ?_
    rw [wA_at, ← rowA_fun]; rfl
  · refine (congrArg₂ (fun (i : BitVec 32) (x : ℕ) => tabN (tbM m d) i.toNat x)
      (chN_at (f3M m d) (idxA (xM m d)) (f3M_at m d) n _ _ _ hpt ch.isLt k.isLt) e).trans ?_
    rw [idxA_at, ← rowA_fun]; rfl

/-! ## A column's grid point and corner -/

section
variable (r : Fin 7 → F .f32) (a b c : Fin 7) (i j k : ℕ) (hi : i < 2) (hj : j < 2) (hk : k < 2)
include hi hj hk

theorem q_col : qy r (8 * (a.val * 49 + b.val * 7 + c.val) + (4 * i + 2 * j + k)) = crdS (r 0) (r 3) (BitVec.ofNat 32 a.val)
    ∧ qx r (8 * (a.val * 49 + b.val * 7 + c.val) + (4 * i + 2 * j + k)) = crdS (r 1) (r 4) (BitVec.ofNat 32 b.val)
    ∧ qz r (8 * (a.val * 49 + b.val * 7 + c.val) + (4 * i + 2 * j + k)) = crdS (r 2) (r 5) (BitVec.ofNat 32 c.val) := by
  unfold qy qx qz gyS gxS gzS
  refine ⟨?_, ?_, ?_⟩ <;> congr 2 <;> omega

theorem k_col : kyS (8 * (a.val * 49 + b.val * 7 + c.val) + (4 * i + 2 * j + k)) = BitVec.ofNat 32 i
    ∧ kxS (8 * (a.val * 49 + b.val * 7 + c.val) + (4 * i + 2 * j + k)) = BitVec.ofNat 32 j
    ∧ kzS (8 * (a.val * 49 + b.val * 7 + c.val) + (4 * i + 2 * j + k)) = BitVec.ofNat 32 k := by
  unfold kyS kxS kzS
  refine ⟨?_, ?_, ?_⟩ <;> congr 1 <;> omega
end

/-! ## The two results agree -/

section
variable (mi : (ℓ : Loc nD τ sig) → Buf (Elt Ideal) ℓ) (d : Dev nD)
variable (V : Valuation Cert.ReferenceIdeal.τ Cert.ReferenceIdeal.sig (Elt Ideal))
variable (ha : aR V = mi (aLoc d)) (hx : xR V = mi (xLoc d))

/-- Whether a grid point lies inside, by the reference. -/
def okR (n : Fin 256) (a b c : Fin 7) : BitVec 1 := IntOp.andi (IntOp.andi (okS (yR V n a)) (okS (x_R V n b))) (okS (zR V n c))

include ha hx in
/-- One of the eight terms. -/
theorem corner_eq (n : Fin 256) (ch : Fin 128) (a b c : Fin 7) (hb : (FloatOps.fptosi 32 (rR V n 6) : BitVec 32).toNat < 4)
    (i j k : ℕ) (hi : i < 2) (hj : j < 2) (hk : k < 2) :
    (wS (rR V n) (8 * (a.val * 49 + b.val * 7 + c.val) + (4 * i + 2 * j + k)) : EReal)
        * tabN (tbM mi d) (idxS (rR V n) (8 * (a.val * 49 + b.val * 7 + c.val) + (4 * i + 2 * j + k))).toNat ch.val
      = Scalar.select (okR V n a b c) (cornR V n a b c ch (BitVec.ofNat 32 i) (BitVec.ofNat 32 j) (BitVec.ofNat 32 k)) 0 := by
  obtain ⟨e1, e2, e3⟩ := q_col (rR V n) a b c i j k hi hj hk
  obtain ⟨f1, f2, f3⟩ := k_col a b c i j k hi hj hk
  have hy := voxS_le (yR V n a) (BitVec.ofNat 32 i)
  have hx' := voxS_le (x_R V n b) (BitVec.ofNat 32 j)
  have hz := voxS_le (zR V n c) (BitVec.ofNat 32 k)
  have ht : (tabN (tbM mi d) (idxS (rR V n) (8 * (a.val * 49 + b.val * 7 + c.val) + (4 * i + 2 * j + k))).toNat ch.val : EReal)
      = aR V (ix5 ⟨_, hb⟩ ch ⟨_, Nat.lt_succ_of_le hy⟩ ⟨_, Nat.lt_succ_of_le hx'⟩ ⟨_, Nat.lt_succ_of_le hz⟩) := by
    unfold idxS
    rw [e1, e2, e3, f1, f2, f3]
    have hf := flatS_toNat hb hy hx' hz
    rw [ha]
    refine Eq.trans ?_ (tbM_at mi d ⟨_, hb⟩ ⟨_, Nat.lt_succ_of_le hy⟩ ⟨_, Nat.lt_succ_of_le hx'⟩ ⟨_, Nat.lt_succ_of_le hz⟩ ch
      (by simp only; omega))
    unfold tabN
    congr 2
    · refine Fin.ext ?_
      refine Eq.trans (congrArg (· % 131072) hf) ?_
      simp only; omega
    · exact Fin.ext (Nat.mod_eq_of_lt ch.isLt)
  rw [ht]
  unfold wS
  rw [e1, e2, e3, f1, f2, f3]
  show Scalar.select (okR V n a b c) _ _ * _ = _
  unfold Scalar.select
  split
  · unfold cornR
    rw [keep_wrap 4#32 _ _ hb (by decide), keep_wrap 32#32 _ _ (Nat.lt_succ_of_le hy) (by decide),
      keep_wrap 32#32 _ _ (Nat.lt_succ_of_le hx') (by decide), keep_wrap 32#32 _ _ (Nat.lt_succ_of_le hz) (by decide)]
    exact mul_comm _ _
  · show Ideal.ofBits .f32 0x00000000#32 * _ = _
    rw [Ideal.ofBits_zero_f32, zero_mul]

include ha hx in
/-- The kernel's result is the reference's weighted sum, or zero outside. -/
theorem out_eq (n : Fin 256) (ch : Fin 128) (a b c : Fin 7) (hb : (FloatOps.fptosi 32 (rR V n 6) : BitVec 32).toNat < 4) :
    @Eq EReal (outM mi d (ix5 n ch a b c))
      (Scalar.select (okR V n a b c) (Cert.ReferenceIdeal.Value.res_main_v457 V (ix5 n a b c ch)) 0) := by
  have hr : (fun j => xM mi d (ix2 n j)) = rR V n := by
    funext j; show _ = xR V _; rw [hx]; rfl
  rw [out_at, hr, v457_at]
  have h := corner_eq mi d V ha hx n ch a b c hb
  refine (congrArg₂ (· + ·) (congrArg₂ (· + ·) (congrArg₂ (· + ·) (h 0 0 0 (by decide) (by decide) (by decide)) (h 0 0 1 (by decide) (by decide) (by decide)))
      (congrArg₂ (· + ·) (h 0 1 0 (by decide) (by decide) (by decide)) (h 0 1 1 (by decide) (by decide) (by decide))))
    (congrArg₂ (· + ·) (congrArg₂ (· + ·) (h 1 0 0 (by decide) (by decide) (by decide)) (h 1 0 1 (by decide) (by decide) (by decide)))
      (congrArg₂ (· + ·) (h 1 1 0 (by decide) (by decide) (by decide)) (h 1 1 1 (by decide) (by decide) (by decide)))) : _ = _).trans ?_
  unfold Scalar.select
  split
  · simp only [add_assoc]
  · simp
end

/-! ## The reference's run, at an index -/

theorem okS_ideal (q : Ideal .f32) : okS q
    = IntOp.andi (BitVec.ofBool (decide ((0 : EReal) ≤ q))) (BitVec.ofBool (decide ((q : EReal) ≤ Ideal.ofBits .f32 0x41F80000#32))) := by
  rw [← Ideal.ofBits_zero_f32]; rfl

theorem ref_run (mr : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨mr, fun _ => 0, ρ⟩ fun r =>
      ∀ d : Dev Cert.ReferenceIdeal.nD,
        (∀ (n : Fin 256) (ch : Fin 128) (a b c : Fin 7),
          @Eq EReal (r.2.mem ((d.tc : Thread Cert.ReferenceIdeal.nD Cert.ReferenceIdeal.τ).loc Cert.ReferenceIdeal.main_v469) (ix5 n ch a b c))
            (Scalar.select (okR (launchContents mr d) n a b c)
              (Cert.ReferenceIdeal.Value.res_main_v457 (launchContents mr d) (ix5 n a b c ch)) 0))
        ∧ r.2.mem ((d.tc : Thread Cert.ReferenceIdeal.nD Cert.ReferenceIdeal.τ).loc Cert.ReferenceIdeal.main_arg0)
            = mr ((d.tc : Thread Cert.ReferenceIdeal.nD Cert.ReferenceIdeal.τ).loc Cert.ReferenceIdeal.main_arg0)
        ∧ r.2.mem ((d.tc : Thread Cert.ReferenceIdeal.nD Cert.ReferenceIdeal.τ).loc Cert.ReferenceIdeal.main_arg1)
            = mr ((d.tc : Thread Cert.ReferenceIdeal.nD Cert.ReferenceIdeal.τ).loc Cert.ReferenceIdeal.main_arg1) := by
  refine (θ_run Cert.ReferenceIdeal.defs _ _).mono (fun r h d => ⟨fun n ch a b c => ?_, (h d).2⟩) (Cert.ReferenceIdeal.Value.run (F := Ideal) mr ρ)
  rw [(h d).1]
  unfold okR
  rw [okS_ideal, okS_ideal, okS_ideal]
  pointwise [v33_at, v49_at, v65_at]

theorem algebraic : Cert.algebraic_KernelIdeal_ReferenceIdeal := fun mk g mr g' hpre hin => by
  refine ⟨outM mk, ?_, ?_⟩
  · exact (θ_run Cert.KernelIdeal.defs _ _).mono (fun _ h c => ⟨(h.1 c).2.2, (h.1 c).1, (h.1 c).2.1⟩) (run_main (F := Ideal) mk g (hfi_of hpre))
  · refine (θ_run Cert.ReferenceIdeal.defs _ _).mono (fun r h c => ⟨?_, (h c).2⟩) (ref_run mr g')
    have ha : aR (launchContents mr c) = mk (aLoc c) := (hin c).1
    have hx : xR (launchContents mr c) = mk (xLoc c) := (hin c).2
    funext y
    obtain ⟨n, ch, a, b, e, rfl⟩ : ∃ (n : Fin 256) (ch : Fin 128) (a b e : Fin 7), y = ix5 n ch a b e := ⟨y 0, y 1, y 2, y 3, y 4, eq_ix5 y⟩
    refine ((h c).1 n ch a b e).trans (out_eq mk c (launchContents mr c) ha hx n ch a b e ?_).symm
    have := in_range_at _ _ (hpre c) n
    rw [rowA_ix] at this
    have e6 : rR (launchContents mr c) n 6 = mk (xLoc c) (ix2 n 6) := congrFun hx _
    rw [e6]; exact this

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.InRange
public import proofs.«01_k».proof.Proof.Out

@[expose] public section

noncomputable section

namespace Cert.Proof

open Idealize.ShloMosaic

theorem claim : Cert.Claim :=
  ⟨Cert.Kernel.Gen.facts, Cert.KernelIdeal.Gen.facts, Cert.ReferenceIdeal.Gen.facts, Cert.Pre_in_range.Gen.facts,
    frame_Kernel, frame_KernelIdeal, frame_ReferenceIdeal, (fun m ρ _ => frame_ReferenceIdeal m ρ trivial), trivial, algebraic⟩

end Cert.Proof

end
